-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 1024]⟩ ⟨2, ![32768, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1x1024 : Shape := ⟨2, ![1, 1024]⟩
abbrev S3x1024 : Shape := ⟨2, ![3, 1024]⟩
abbrev S32 : Shape := ⟨1, ![32]⟩
abbrev S3 : Shape := ⟨1, ![3]⟩
abbrev S1 : Shape := ⟨1, ![1]⟩
abbrev S_ : Shape := ⟨0, ![]⟩
abbrev S256x1024 : Shape := ⟨2, ![256, 1024]⟩
abbrev S1024 : Shape := ⟨1, ![1024]⟩
abbrev S256x256 : Shape := ⟨2, ![256, 256]⟩

abbrev nBuf : Space → Nat
  | .hbm => 2
  | .vmem => 3
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S8192x1024, .f32⟩
  | .local _ .vmem, ⟨1, _⟩ => ⟨S1x1024, .f32⟩
  | .local _ .vmem, ⟨2, _⟩ => ⟨S3x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_99 : BitVec 32 := 1#32
  let v132 : BitVec 32 := Scalar.addi v2 c1_i32_99
  let c4_i32_100 : BitVec 32 := 4#32
  let c0_i32_101 : BitVec 32 := 0#32
  let v133 : BitVec 1 := Scalar.cmpi .eq c4_i32_100 c0_i32_101
  let c1_i32_102 : BitVec 32 := 1#32
  let v134 : BitVec 32 := Scalar.select v133 c1_i32_102 c4_i32_100
  let v135 : BitVec 32 := Scalar.remsi v132 v134
  let c0_i32_104 : BitVec 32 := 0#32
  let v137 : BitVec 1 := Scalar.cmpi .slt v135 c0_i32_104
  let c0_i32_105 : BitVec 32 := 0#32
  let v138 : BitVec 1 := Scalar.cmpi .slt v134 c0_i32_105
  let v139 : BitVec 1 := Scalar.xori v137 v138
  let c0_i32_103 : BitVec 32 := 0#32
  let v136 : BitVec 1 := Scalar.cmpi .ne v135 c0_i32_103
  let v140 : BitVec 1 := Scalar.andi v139 v136
  let v141 : BitVec 32 := Scalar.addi v135 v134
  let v142 : BitVec 32 := Scalar.select v140 v141 v135
  let c1_i32_107 : BitVec 32 := 1#32
  let v143 : BitVec 32 := Scalar.muli v142 c1_i32_107
  let v144 : BitVec 32 := Scalar.addi c0_i32_108 v143
  v144.toNat
def k0_dev2 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_109 : BitVec 32 := 2#32
  let v145 : BitVec 32 := Scalar.addi v2 c2_i32_109
  let c4_i32_110 : BitVec 32 := 4#32
  let c0_i32_111 : BitVec 32 := 0#32
  let v146 : BitVec 1 := Scalar.cmpi .eq c4_i32_110 c0_i32_111
  let c1_i32_112 : BitVec 32 := 1#32
  let v147 : BitVec 32 := Scalar.select v146 c1_i32_112 c4_i32_110
  let v148 : BitVec 32 := Scalar.remsi v145 v147
  let c0_i32_114 : BitVec 32 := 0#32
  let v150 : BitVec 1 := Scalar.cmpi .slt v148 c0_i32_114
  let c0_i32_115 : BitVec 32 := 0#32
  let v151 : BitVec 1 := Scalar.cmpi .slt v147 c0_i32_115
  let v152 : BitVec 1 := Scalar.xori v150 v151
  let c0_i32_113 : BitVec 32 := 0#32
  let v149 : BitVec 1 := Scalar.cmpi .ne v148 c0_i32_113
  let v153 : BitVec 1 := Scalar.andi v152 v149
  let v154 : BitVec 32 := Scalar.addi v148 v147
  let v155 : BitVec 32 := Scalar.select v153 v154 v148
  let c1_i32_117 : BitVec 32 := 1#32
  let v156 : BitVec 32 := Scalar.muli v155 c1_i32_117
  let v157 : BitVec 32 := Scalar.addi c0_i32_118 v156
  v157.toNat
def k0_dev3 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_119 : BitVec 32 := 3#32
  let v158 : BitVec 32 := Scalar.addi v2 c3_i32_119
  let c4_i32_120 : BitVec 32 := 4#32
  let c0_i32_121 : BitVec 32 := 0#32
  let v159 : BitVec 1 := Scalar.cmpi .eq c4_i32_120 c0_i32_121
  let c1_i32_122 : BitVec 32 := 1#32
  let v160 : BitVec 32 := Scalar.select v159 c1_i32_122 c4_i32_120
  let v161 : BitVec 32 := Scalar.remsi v158 v160
  let c0_i32_124 : BitVec 32 := 0#32
  let v163 : BitVec 1 := Scalar.cmpi .slt v161 c0_i32_124
  let c0_i32_125 : BitVec 32 := 0#32
  let v164 : BitVec 1 := Scalar.cmpi .slt v160 c0_i32_125
  let v165 : BitVec 1 := Scalar.xori v163 v164
  let c0_i32_123 : BitVec 32 := 0#32
  let v162 : BitVec 1 := Scalar.cmpi .ne v161 c0_i32_123
  let v166 : BitVec 1 := Scalar.andi v165 v162
  let v167 : BitVec 32 := Scalar.addi v161 v160
  let v168 : BitVec 32 := Scalar.select v166 v167 v161
  let c1_i32_127 : BitVec 32 := 1#32
  let v169 : BitVec 32 := Scalar.muli v168 c1_i32_127
  let v170 : BitVec 32 := Scalar.addi c0_i32_128 v169
  v170.toNat
def k0_dev4 (d0 : Dev nD) : Nat :=
  let c0_i32_366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_356 : BitVec 32 := 1#32
  let v431 : BitVec 32 := Scalar.addi v2 c1_i32_356
  let c4_i32_357 : BitVec 32 := 4#32
  let c0_i32_358 : BitVec 32 := 0#32
  let v432 : BitVec 1 := Scalar.cmpi .eq c4_i32_357 c0_i32_358
  let c1_i32_359 : BitVec 32 := 1#32
  let v433 : BitVec 32 := Scalar.select v432 c1_i32_359 c4_i32_357
  let v434 : BitVec 32 := Scalar.remsi v431 v433
  let c0_i32_361 : BitVec 32 := 0#32
  let v436 : BitVec 1 := Scalar.cmpi .slt v434 c0_i32_361
  let c0_i32_362 : BitVec 32 := 0#32
  let v437 : BitVec 1 := Scalar.cmpi .slt v433 c0_i32_362
  let v438 : BitVec 1 := Scalar.xori v436 v437
  let c0_i32_360 : BitVec 32 := 0#32
  let v435 : BitVec 1 := Scalar.cmpi .ne v434 c0_i32_360
  let v439 : BitVec 1 := Scalar.andi v438 v435
  let v440 : BitVec 32 := Scalar.addi v434 v433
  let v441 : BitVec 32 := Scalar.select v439 v440 v434
  let c1_i32_365 : BitVec 32 := 1#32
  let v442 : BitVec 32 := Scalar.muli v441 c1_i32_365
  let v443 : BitVec 32 := Scalar.addi c0_i32_366 v442
  v443.toNat
def k0_dev5 (d0 : Dev nD) : Nat :=
  let c0_i32_379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_369 : BitVec 32 := 2#32
  let v449 : BitVec 32 := Scalar.addi v2 c2_i32_369
  let c4_i32_370 : BitVec 32 := 4#32
  let c0_i32_371 : BitVec 32 := 0#32
  let v450 : BitVec 1 := Scalar.cmpi .eq c4_i32_370 c0_i32_371
  let c1_i32_372 : BitVec 32 := 1#32
  let v451 : BitVec 32 := Scalar.select v450 c1_i32_372 c4_i32_370
  let v452 : BitVec 32 := Scalar.remsi v449 v451
  let c0_i32_374 : BitVec 32 := 0#32
  let v454 : BitVec 1 := Scalar.cmpi .slt v452 c0_i32_374
  let c0_i32_375 : BitVec 32 := 0#32
  let v455 : BitVec 1 := Scalar.cmpi .slt v451 c0_i32_375
  let v456 : BitVec 1 := Scalar.xori v454 v455
  let c0_i32_373 : BitVec 32 := 0#32
  let v453 : BitVec 1 := Scalar.cmpi .ne v452 c0_i32_373
  let v457 : BitVec 1 := Scalar.andi v456 v453
  let v458 : BitVec 32 := Scalar.addi v452 v451
  let v459 : BitVec 32 := Scalar.select v457 v458 v452
  let c1_i32_378 : BitVec 32 := 1#32
  let v460 : BitVec 32 := Scalar.muli v459 c1_i32_378
  let v461 : BitVec 32 := Scalar.addi c0_i32_379 v460
  v461.toNat
def k0_dev6 (d0 : Dev nD) : Nat :=
  let c0_i32_392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_382 : BitVec 32 := 3#32
  let v467 : BitVec 32 := Scalar.addi v2 c3_i32_382
  let c4_i32_383 : BitVec 32 := 4#32
  let c0_i32_384 : BitVec 32 := 0#32
  let v468 : BitVec 1 := Scalar.cmpi .eq c4_i32_383 c0_i32_384
  let c1_i32_385 : BitVec 32 := 1#32
  let v469 : BitVec 32 := Scalar.select v468 c1_i32_385 c4_i32_383
  let v470 : BitVec 32 := Scalar.remsi v467 v469
  let c0_i32_387 : BitVec 32 := 0#32
  let v472 : BitVec 1 := Scalar.cmpi .slt v470 c0_i32_387
  let c0_i32_388 : BitVec 32 := 0#32
  let v473 : BitVec 1 := Scalar.cmpi .slt v469 c0_i32_388
  let v474 : BitVec 1 := Scalar.xori v472 v473
  let c0_i32_386 : BitVec 32 := 0#32
  let v471 : BitVec 1 := Scalar.cmpi .ne v470 c0_i32_386
  let v475 : BitVec 1 := Scalar.andi v474 v471
  let v476 : BitVec 32 := Scalar.addi v470 v469
  let v477 : BitVec 32 := Scalar.select v475 v476 v470
  let c1_i32_391 : BitVec 32 := 1#32
  let v478 : BitVec 32 := Scalar.muli v477 c1_i32_391
  let v479 : BitVec 32 := Scalar.addi c0_i32_392 v478
  v479.toNat
-- ==== ReferenceIdeal.lean ====
abbrev S32768x1024 : Shape := ⟨2, ![32768, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S_, .f32⟩
  | .hbm, ⟨3, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Steps.lean ====
module

public import proofs.«01_k».proof.Defs
public import proofs.«01_k».proof.Proof.Gen.KernelIdeal
public import proofs.«01_k».proof.Proof.Gen.KernelIdeal.Skeleton
public import proofs.«01_k».proof.Proof.Gen.KernelIdeal.Points

@[expose] public section

noncomputable section

namespace Cert.ScanProof

open Idealize.ShloMosaic Idealize.ShloMosaic.TcCoe Idealize.SL Idealize.SL.Sem
open Cert.KernelIdeal Cert.KernelIdeal.Gen

variable {F : FTy → Type} [FloatOps F]

/-! ## The kernel's body written as loops over the chunks -/

/-- A program of the kernel's body. -/
abbrev Body (F : FTy → Type) [FloatOps F] (α : Type) := Prog (TpuEff nD τ sig (Elt F) Λ₀ .tc) α

/-- Chunk `k` of an 8192×1024 array: rows `256 k` to `256 k + 255`. -/
abbrev chunk (k : Fin 32) : Rect S8192x1024 :=
  Rect.unit (s := S8192x1024) ![256 * k.val, 0] S256x1024.size (fun a => by
    have := k.isLt; fin_cases a <;> simp <;> omega)

/-- The chunk of the device's block of `x`, of the work buffer, of the result. -/
abbrev xC (k : Fin 32) : Memref sig .tc .hbm S256x1024 .f32 := (Memref.whole main_arg0).slice (chunk k) (fun _ => rfl)
/-- The chunk of the work buffer. -/
abbrev wC (k : Fin 32) : Memref sig .tc .vmem S256x1024 .f32 := (Memref.whole cc0_scratch0).slice (chunk k) (fun _ => rfl)
/-- The chunk of the result. -/
abbrev oC (k : Fin 32) : Memref sig .tc .hbm S256x1024 .f32 := (Memref.whole main_v1).slice (chunk k) (fun _ => rfl)
/-- The device's own total and the totals it is sent, row by row. -/
abbrev totM : Memref sig .tc .vmem S1x1024 .f32 := Memref.whole cc0_scratch1
/-- Row `j` of the table of totals. -/
abbrev rowM (j : Fin 3) : Memref sig .tc .vmem S1x1024 .f32 :=
  (Memref.whole cc0_scratch2).slice (Rect.unit (s := S3x1024) ![j.val, 0] S1x1024.size (fun a => by
    have := j.isLt; fin_cases a <;> simp <;> omega)) (fun _ => rfl)

/-- A semaphore among thirty-two. -/
theorem inb32 (k : Fin 32) : ∀ a, (![k.val] : Fin 1 → Nat) a + S1.size a ≤ S32.size a := fun a => by
  fin_cases a; exact k.isLt
/-- A semaphore among three. -/
theorem inb3 (j : Fin 3) : ∀ a, (![j.val] : Fin 1 → Nat) a + S1.size a ≤ S3.size a := fun a => by
  fin_cases a; exact j.isLt

/-- The semaphores: copy `k` in, copy `k` out, send `j`, receive `j`, and the barrier's. -/
abbrev inS (k : Fin 32) : DmaSem sig :=
  ((cc0_scratch3.slice (Rect.unit (s := S32) ![k.val] S1.size (inb32 k))).squeeze S_ Facts₀.squeezes_S1_S_).sem
/-- The semaphore of copy `k` out. -/
abbrev outS (k : Fin 32) : DmaSem sig :=
  ((cc0_scratch4.slice (Rect.unit (s := S32) ![k.val] S1.size (inb32 k))).squeeze S_ Facts₀.squeezes_S1_S_).sem
/-- The semaphore of send `j`. -/
abbrev sendS (j : Fin 3) : DmaSem sig :=
  ((cc0_scratch5.slice (Rect.unit (s := S3) ![j.val] S1.size (inb3 j))).squeeze S_ Facts₀.squeezes_S1_S_).sem
/-- The semaphore of receipt `j`. -/
abbrev recvS (j : Fin 3) : DmaSem sig :=
  ((cc0_scratch6.slice (Rect.unit (s := S3) ![j.val] S1.size (inb3 j))).squeeze S_ Facts₀.squeezes_S1_S_).sem
/-- The barrier's semaphore. -/
abbrev barS : Sem sig := (SemArray.scalar (sig.barrier 0 rfl) : Sems sig S_).sem

/-- Reading chunk `k` of the work buffer. -/
def loadC (k : Fin 32) : Body F (Vec F S256x1024 .f32) :=
  Prog.lift (.load (Memref.whole cc0_scratch0) (chunk k).toLoadRect (View.loadsAt_vmem Facts₀.h_S256x1024))

/-- Starting the copies of the chunks of `x` into the work buffer. -/
def startIn : List (Fin 32) → Body F PUnit
  | [] => pure ⟨⟩
  | k :: ks => do
    Prog.lift (.enqueueDma (xC k) (.here (wC k)) (.dma (inS k)) (View.wordExact_bits rfl) (View.wordExact_bits rfl) ⟨Or.inl rfl, trivial⟩)
    startIn ks

/-- Waiting for the chunks one by one, keeping the running column sums: the chunks each with the sum of those before it,
    and the sum of all. -/
def accum : List (Fin 32) → FVec F S1x1024 .f32 → Body F (List (Fin 32 × FVec F S1x1024 .f32) × FVec F S1x1024 .f32)
  | [], run => pure ([], run)
  | k :: ks, run => do
    Prog.lift (.waitDma2 (inS k) (xC k) (wC k) (View.wordExact_bits rfl) (View.wordExact_bits rfl))
    let v ← loadC k
    let r ← accum ks (k0_pay3 run (k0_pay2 v))
    pure ((k, run) :: r.1, r.2)

/-- The chunks' results, written over the work buffer and started on their way out. -/
def emit (off : FVec F S1x1024 .f32) : List (Fin 32 × FVec F S1x1024 .f32) → Body F PUnit
  | [] => pure ⟨⟩
  | kp :: ks => do
    let v ← loadC kp.1
    let _ ← loadC (F := F) kp.1
    Prog.lift (.store (Memref.whole cc0_scratch0) (chunk kp.1) (k0_pay42 kp.2 off k0_pay39 v) Finset.univ
      (View.stores_vmem_bits_univ Facts₀.h_S256x1024 rfl) (.inl rfl))
    Prog.lift (.enqueueDma (wC kp.1) (.here (oC kp.1)) (.dma (outS kp.1)) (View.wordExact_bits rfl) (View.wordExact_bits rfl) ⟨Or.inl rfl, trivial⟩)
    emit off ks

/-- Waiting for the copies out. -/
def drain : List (Fin 32) → Body F PUnit
  | [] => pure ⟨⟩
  | k :: ks => do
    Prog.lift (.waitDma2 (outS k) (wC k) (oC k) (View.wordExact_bits rfl) (View.wordExact_bits rfl))
    drain ks

/-- The handshake on the barrier semaphore. -/
def shake (d0 : Dev nD) : Body F PUnit := do
  semSignalWord (⟨k0_dev1 d0, Facts₀.k0_dev1_lt d0⟩ : Dev nD) barS 1#32
  semSignalWord (⟨k0_dev2 d0, Facts₀.k0_dev2_lt d0⟩ : Dev nD) barS 1#32
  semSignalWord (⟨k0_dev3 d0, Facts₀.k0_dev3_lt d0⟩ : Dev nD) barS 1#32
  semWaitWord barS 3#32

/-- Storing the device's total: its old contents are read first, as the printed program reads them. -/
def putTotal (t : FVec F S1x1024 .f32) : Body F PUnit := do
  let _ ← Prog.lift (.load totM (Rect.unit (s := S1x1024) ![0, 0] S1x1024.size Facts₀.inb_S1x1024_S1x1024_0_0).toLoadRect (View.loadsAt_vmem Facts₀.h_S1x1024))
  Prog.lift (.store totM (Rect.unit (s := S1x1024) ![0, 0] S1x1024.size Facts₀.inb_S1x1024_S1x1024_0_0)
    (shapeCast S1x1024 t Facts₀.shapeCasts_S1x1024_S1x1024) Finset.univ (View.stores_vmem_bits_univ Facts₀.h_S1x1024 rfl) (.inl rfl))

/-- Sending the total to device `p`, into its row `j`. -/
def sendTo (p : Dev nD) (j : Fin 3) : Body F PUnit :=
  Prog.lift (.enqueueDma totM (.remote (Dev.tc p) (rowM j) (.dma (sendS j))) (.dma (recvS j)) (Memref.isWhole_whole _).wordExact (View.wordExact_bits rfl) ⟨⟨rfl, Or.inl rfl⟩, trivial⟩)

/-- Waiting until send `j` has read the total. -/
def waitSent (j : Fin 3) : Body F PUnit :=
  Prog.lift (.waitDma2 (sendS j) (rowM j) totM (View.wordExact_bits rfl) (Memref.isWhole_whole _).wordExact)

/-- Waiting until row `j` has come. -/
def waitRecv (j : Fin 3) : Body F PUnit :=
  Prog.lift (.waitDma2 (recvS j) totM (rowM j) (Memref.isWhole_whole _).wordExact (View.wordExact_bits rfl))

/-- The exchange of the totals. -/
def exchange (d0 : Dev nD) : Body F PUnit := do
  sendTo ⟨k0_dev4 d0, Facts₀.k0_dev4_lt d0⟩ 0
  sendTo ⟨k0_dev5 d0, Facts₀.k0_dev5_lt d0⟩ 1
  sendTo ⟨k0_dev6 d0, Facts₀.k0_dev6_lt d0⟩ 2
  waitSent 0
  waitSent 1
  waitSent 2
  waitRecv 0
  waitRecv 1
  waitRecv 2

/-- The sum of the totals of the devices before this one, of the totals it was sent. -/
def offset (w : BitVec 32) (tot : Vec F S3x1024 .f32) : FVec F S1x1024 .f32 :=
  k0_pay38 w (k0_pay35 w) (k0_pay36 w) (k0_pay37 w) tot

/-- The device's number, as the kernel computes it. -/
def devWord (d0 : Dev nD) : BitVec 32 := Scalar.remsi (Scalar.divsi (Dev.word d0) 1#32) 4#32

/-- All the chunks, in order. -/
abbrev chunks : List (Fin 32) :=
  [0, 1, 2, 3, 4, 5, 6, 7, 8, 9, 10, 11, 12, 13, 14, 15, 16, 17, 18, 19, 20, 21, 22, 23, 24, 25, 26, 27, 28, 29, 30, 31]

/-- Reading the whole table of totals. -/
def loadAll : Body F (Vec F S3x1024 .f32) :=
  Prog.lift (.load (Memref.whole cc0_scratch2) (Rect.unit (s := S3x1024) ![0, 0] S3x1024.size Facts₀.inb_S3x1024_S3x1024_0_0).toLoadRect (View.loadsAt_vmem Facts₀.h_S3x1024))

/-- The whole body. -/
def scanBody : Body F PUnit := do
  let d0 ← Prog.lift .deviceId
  startIn chunks
  shake d0
  let r ← accum chunks k0_pay1
  putTotal r.2
  exchange d0
  let tot ← loadAll
  emit (offset (devWord d0) tot) r.1
  drain chunks

end Cert.ScanProof

end
-- ==== Proof.Base.lean ====
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Memref
public import Idealize.ShloMosaic.Lib.Pointwise.Index
public import Idealize.ShloMosaic.Lib.Tactic

/-!
# The algebra, the contents and the ownership of a chunk

What the scan over the mesh is stated with: the resource algebra (the pipeline's rounds, this protocol's rounds, the
counters of the local copies), the contents every buffer goes through as plain functions of the launch memory, and the
chunks, rows and totals owned through their memrefs.
-/

@[expose] public section

noncomputable section

namespace Cert.ScanProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The protocol's rounds: cells of the whole mesh, duties numbered 0, 1, 2. -/
abbrev UB : Type := URounds (GSem nD τ sig) (Fin 3)
/-- The pipeline's rounds, beside this protocol's rounds and the local copies' counters. -/
abbrev UU : Type := UR sig nD τ × (UB × Counters)

local notation "𝕄" => MT nD τ sig Unit (Elt F) ℕ UU ℕ

/-- The pipeline's rounds among the resources. -/
abbrev EP : Emb (UR sig nD τ) (MT nD τ sig Unit (Elt F) ℕ UU ℕ) := embL
/-- The protocol's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The protocol's rounds may be kept inside invariants. -/
instance ER_landsIn : (ER : Emb UB 𝕄).LandsIn (upEmb : UEmb _ 𝕄) := by unfold ER; infer_instance
/-- The local copies' counters among the resources. -/
abbrev EC : UEmb Counters (MT nD τ sig Unit (Elt F) ℕ UU ℕ) := countersEmb

/-- No loop of the kernel needs a variant. -/
abbrev 𝒱₀ : Variants := Variants.none

variable (m : (ℓ : Loc nD τ sig) → Buf (Elt F) ℓ) (ρ : Dev nD → PrngReg)

/-! ## The contents -/

/-- Device `c`'s block of the input. -/
def xIn (c : Dev nD) : FVec F S8192x1024 .f32 := m ((c : Thread nD τ).loc main_arg0)

/-- Chunk `k` of it. -/
def xBlk (c : Dev nD) (k : Fin 32) : FVec F S256x1024 .f32 := fun i => xIn m c ((chunk k).emb i)

/-- The column sums of the first `n` chunks, added up one chunk at a time. -/
def runs (c : Dev nD) : ℕ → FVec F S1x1024 .f32
  | 0 => k0_pay1
  | n + 1 => k0_pay3 (runs c n) (k0_pay2 (xBlk m c (Fin.ofNat 32 n)))

/-- Device `c`'s total. -/
def total (c : Dev nD) : FVec F S1x1024 .f32 := shapeCast S1x1024 (runs m c 32) Facts₀.shapeCasts_S1x1024_S1x1024

/-- The device `j + 1` places after `c`, and the one `j + 1` places before. -/
def fwd (j : Fin 3) (c : Dev nD) : Dev nD := ⟨(c.val + (j.val + 1)) % 4, Nat.mod_lt _ (by decide)⟩
/-- The device `j + 1` places before `c`. -/
def bwd (j : Fin 3) (c : Dev nD) : Dev nD := ⟨(c.val + (3 - j.val)) % 4, Nat.mod_lt _ (by decide)⟩

/-- Forward and back is where one was. -/
theorem bwd_fwd (j : Fin 3) (c : Dev nD) : bwd j (fwd j c) = c := by revert j c; decide
/-- Back and forward is where one was. -/
theorem fwd_bwd (j : Fin 3) (c : Dev nD) : fwd j (bwd j c) = c := by revert j c; decide
/-- Forward by the complementary distance is backward. -/
theorem fwd_rev (j : Fin 3) (c : Dev nD) : fwd j.rev c = bwd j c := by revert j c; decide
/-- Backward by the complementary distance is forward. -/
theorem bwd_rev (j : Fin 3) (c : Dev nD) : bwd j.rev c = fwd j c := by revert j c; decide

/-- Going forward, as a permutation of the devices. -/
def turn (j : Fin 3) : Dev nD ≃ Dev nD := ⟨fwd j, bwd j, bwd_fwd j, fwd_bwd j⟩

/-- The first signal goes one place forward. -/
theorem dev1_eq (c : Dev nD) : (⟨k0_dev1 c, Facts₀.k0_dev1_lt c⟩ : Dev nD) = fwd 0 c := by revert c; decide +kernel
/-- The second signal goes two places forward. -/
theorem dev2_eq (c : Dev nD) : (⟨k0_dev2 c, Facts₀.k0_dev2_lt c⟩ : Dev nD) = fwd 1 c := by revert c; decide +kernel
/-- The third signal goes three places forward. -/
theorem dev3_eq (c : Dev nD) : (⟨k0_dev3 c, Facts₀.k0_dev3_lt c⟩ : Dev nD) = fwd 2 c := by revert c; decide +kernel
/-- The first copy goes one place forward. -/
theorem dev4_eq (c : Dev nD) : (⟨k0_dev4 c, Facts₀.k0_dev4_lt c⟩ : Dev nD) = fwd 0 c := by revert c; decide +kernel
/-- The second copy goes two places forward. -/
theorem dev5_eq (c : Dev nD) : (⟨k0_dev5 c, Facts₀.k0_dev5_lt c⟩ : Dev nD) = fwd 1 c := by revert c; decide +kernel
/-- The third copy goes three places forward. -/
theorem dev6_eq (c : Dev nD) : (⟨k0_dev6 c, Facts₀.k0_dev6_lt c⟩ : Dev nD) = fwd 2 c := by revert c; decide +kernel

/-- The row of an index of the table of totals. -/
def rowOf (i : S3x1024.Idx) : Fin 3 := ⟨(i 0).val, (i 0).isLt⟩

/-- The totals device `c` is sent: row `j` that of the device `j + 1` places before it. -/
def peers (c : Dev nD) : FVec F S3x1024 .f32 := fun i => total m (bwd (rowOf i) c) (ix2 0 (i 1))

/-- What device `c` adds to each of its chunks, and chunk `k` of its result. -/
def offs (c : Dev nD) : FVec F S1x1024 .f32 := offset (devWord c) (peers m c)
/-- Chunk `k` of device `c`'s result. -/
def resBlk (c : Dev nD) (k : Fin 32) : FVec F S256x1024 .f32 := k0_pay42 (runs m c k.val) (offs m c) k0_pay39 (xBlk m c k)

/-- The chunk a row lies in, and its place there. -/
def chunkOf (i : S8192x1024.Idx) : Fin 32 := ⟨(i 0).val / 256, by have : (i 0).val < 8192 := (i 0).isLt; omega⟩
/-- The place of a row in its chunk. -/
def placeOf (i : S8192x1024.Idx) : S256x1024.Idx := ix2 ⟨(i 0).val % 256, Nat.mod_lt _ (by decide)⟩ (i 1)

/-- Device `c`'s block of the result. -/
def outFull (c : Dev nD) : FVec F S8192x1024 .f32 := fun i => resBlk m c (chunkOf i) (placeOf i)

/-- A place of chunk `k` lies in chunk `k`. -/
theorem chunkOf_emb (k : Fin 32) (i : S256x1024.Idx) : chunkOf ((chunk k).emb i) = k := by
  apply Fin.ext
  have h : ((chunk k).emb i 0).val = 256 * k.val + 1 * (i 0).val := rfl
  have h' : (i 0).val < 256 := (i 0).isLt
  show ((chunk k).emb i 0).val / 256 = k.val
  omega
/-- The place of a place of a chunk is itself. -/
theorem placeOf_emb (k : Fin 32) (i : S256x1024.Idx) : placeOf ((chunk k).emb i) = i := by
  have h : ((chunk k).emb i 0).val = 256 * k.val + 1 * (i 0).val := rfl
  have h2 : ((chunk k).emb i 1).val = 0 + 1 * (i 1).val := rfl
  have h' : (i 0).val < 256 := (i 0).isLt
  funext a
  fin_cases a
  · apply Fin.ext; show ((chunk k).emb i 0).val % 256 = (i 0).val; omega
  · apply Fin.ext; show ((chunk k).emb i 1).val = (i 1).val; omega
/-- A row is found at its place in its chunk. -/
theorem emb_placeOf (i : S8192x1024.Idx) : (chunk (chunkOf i)).emb (placeOf i) = i := by
  funext a
  fin_cases a
  · apply Fin.ext; show 256 * ((i 0).val / 256) + 1 * ((i 0).val % 256) = (i 0).val; omega
  · apply Fin.ext; show 0 + 1 * (i 1).val = (i 1).val; omega

/-- The result, read at chunk `k`. -/
theorem outFull_emb (c : Dev nD) (k : Fin 32) : (fun j => outFull m c ((chunk k).emb j)) = resBlk m c k := by
  funext j; unfold outFull; rw [chunkOf_emb, placeOf_emb]

/-- Different chunks share no entry. -/
theorem chunk_disjoint (k k' : Fin 32) (h : k ≠ k') : Disjoint (chunk k).set (chunk k').set := by
  rw [Finset.disjoint_left]
  intro i hi hi'
  rw [← Rect.map_emb_univ, Finset.mem_map] at hi hi'
  obtain ⟨j, -, rfl⟩ := hi
  obtain ⟨j', -, e⟩ := hi'
  exact h (by rw [← chunkOf_emb k j, ← e, chunkOf_emb])
/-- The chunks cover the array. -/
theorem chunk_cover : (Finset.univ : Finset (Fin 32)).biUnion (fun k => (chunk k).set) = Finset.univ := by
  ext i
  refine ⟨fun _ => Finset.mem_univ _, fun _ => Finset.mem_biUnion.mpr ⟨chunkOf i, Finset.mem_univ _, ?_⟩⟩
  rw [← Rect.map_emb_univ, Finset.mem_map]
  exact ⟨placeOf i, Finset.mem_univ _, emb_placeOf i⟩

/-- Row `j` of a 3×1024 array. -/
abbrev rowR (j : Fin 3) : Rect S3x1024 := Rect.unit (s := S3x1024) ![j.val, 0] S1x1024.size (fun a => by
  have := j.isLt; fin_cases a <;> simp <;> omega)

/-- Where an entry of row `j` lies in the table. -/
theorem row_emb (j : Fin 3) (i : S1x1024.Idx) : (rowR j).emb i = ix2 j (i 1) := by
  funext a
  fin_cases a
  · apply Fin.ext; have h : (i 0).val < 1 := (i 0).isLt; show j.val + 1 * (i 0).val = j.val; omega
  · apply Fin.ext; show 0 + 1 * (i 1).val = (i 1).val; omega

/-- Different rows share no entry. -/
theorem row_disjoint (k k' : Fin 3) (h : k ≠ k') : Disjoint (rowR k).set (rowR k').set := by
  rw [Finset.disjoint_left]
  intro i hi hi'
  rw [← Rect.map_emb_univ, Finset.mem_map] at hi hi'
  obtain ⟨j, -, rfl⟩ := hi
  obtain ⟨j', -, e⟩ := hi'
  rw [row_emb, row_emb] at e
  exact h (congrFun e 0).symm
/-- The rows cover the table. -/
theorem row_cover : (Finset.univ : Finset (Fin 3)).biUnion (fun k => (rowR k).set) = Finset.univ := by
  ext i
  refine ⟨fun _ => Finset.mem_univ _, fun _ => Finset.mem_biUnion.mpr ⟨rowOf i, Finset.mem_univ _, ?_⟩⟩
  rw [← Rect.map_emb_univ, Finset.mem_map]
  refine ⟨ix2 0 (i 1), Finset.mem_univ _, (row_emb _ _).trans ?_⟩
  funext a; fin_cases a <;> rfl

/-- Row `j` of the table is the total of the device `j + 1` places before. -/
theorem peers_emb (c : Dev nD) (j : Fin 3) : (fun i => peers m c ((rowR j).emb i)) = total m (bwd j c) := by
  funext i
  rw [row_emb]
  show total m (bwd j c) (ix2 0 (i 1)) = _
  congr 1
  funext a
  fin_cases a
  · exact (Fin.fin_one_eq_zero (i 0)).symm
  · rfl

/-! ## Ownership -/

/-- A memref's elements owned whole, at contents not named. -/
def some' (c : Dev nD) {sp : Space} {sh : Shape} {e : EltTy} (M : Memref sig .tc sp sh e) : sProp 𝕄 :=
  iprop(∃ X, owns (c : Thread nD τ) M fullShare X)

/-- Ownership at contents not named may be kept inside an invariant. -/
instance some'_storable (c : Dev nD) {sp : Space} {sh : Shape} {e : EltTy} (M : Memref sig .tc sp sh e) :
    BI.Storable (upEmb : UEmb _ 𝕄) (some' (F := F) c M) := by unfold some'; infer_instance

end Cert.ScanProof

end
-- ==== Proof.Loops.lean ====
module

public import proofs.«01_k».proof.Proof.Base

/-!
# The loops over the chunks

One lemma per loop of the body, by induction over the list of chunks: starting the copies in, waiting for them while the
column sums run, writing the results and starting the copies out, and waiting for those.
-/

@[expose] public section

noncomputable section

namespace Cert.ScanProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- A chunk's credit. -/
def NC (k : Fin 32) : ℕ := (wC k).view.dmaCredit
/-- The credit of a chunk copied out. -/
def NO (k : Fin 32) : ℕ := (oC k).view.dmaCredit
/-- A chunk's credit is positive. -/
theorem NC_pos (k : Fin 32) : 0 < NC k := View.dmaCredit_pos _ (by decide)
/-- The credit of a chunk copied out is positive. -/
theorem NO_pos (k : Fin 32) : 0 < NO k := View.dmaCredit_pos _ (by decide)

/-- Chunk `k` of the input before its copy, on its way, and arrived. -/
def inReady (c : Dev nD) (k : Fin 32) : sProp 𝕄 :=
  iprop(owns (c : Thread nD τ) (xC k) fullShare (xBlk m c k) ∗ some' c (wC k) ∗ semVal ((c : Thread nD τ), .dma (inS k)) 0)
/-- Chunk `k` on its way in. -/
def inFlight (c : Dev nD) (k : Fin 32) : sProp 𝕄 :=
  Flight EC (c : Thread nD τ) (.dma (inS k)) () (NC k)
    iprop(owns (c : Thread nD τ) (wC k) fullShare (xBlk m c k) ∗ owns (c : Thread nD τ) (xC k) fullShare (xBlk m c k))
/-- Chunk `k` arrived. -/
def inDone (c : Dev nD) (k : Fin 32) : sProp 𝕄 :=
  iprop(owns (c : Thread nD τ) (wC k) fullShare (xBlk m c k)
    ∗ owns (c : Thread nD τ) (xC k) fullShare (xBlk m c k) ∗ semVal ((c : Thread nD τ), .dma (inS k)) 0)

/-- Chunk `k` before its copy, written out. -/
theorem inReady_eq (c : Dev nD) (k : Fin 32) : inReady m c k
    = iprop(owns (c : Thread nD τ) (xC k) fullShare (xBlk m c k) ∗ some' c (wC k) ∗ semVal ((c : Thread nD τ), .dma (inS k)) 0) := rfl
/-- Chunk `k` on its way in, written out. -/
theorem inFlight_eq (c : Dev nD) (k : Fin 32) : inFlight m c k
    = Flight EC (c : Thread nD τ) (.dma (inS k)) () (NC k)
        iprop(owns (c : Thread nD τ) (wC k) fullShare (xBlk m c k) ∗ owns (c : Thread nD τ) (xC k) fullShare (xBlk m c k)) := rfl

/-- A local copy between two memrefs owned whole, the source at `X`. -/
theorem wp_copy (c : Dev nD) {sp sp' : Space} {sh : Shape} (src : Memref sig .tc sp sh .f32) (dst : Memref sig .tc sp' sh .f32)
    (s : DmaSem sig) (N : ℕ) (hN : dst.view.dmaCredit = N) (hN0 : 0 < N) (X : sh.Idx → Elt F .f32)
    {hsrc : src.view.WordExact} {hdst : dst.view.WordExact} {hsem : DmaTarget.Typed (nD := nD) (τ := τ) (p := (Proc.tc : Proc τ)) sp (.dma s) (.here dst)}
    {α : Type} {Q : α → sProp 𝕄} {K : PUnit → Body F α} :
    iprop(owns (c : Thread nD τ) src fullShare X ∗ some' c dst ∗ semVal ((c : Thread nD τ), .dma s) 0)
      ⊢ iprop((Flight EC (c : Thread nD τ) (.dma s) () N
            iprop(owns (c : Thread nD τ) dst fullShare X ∗ owns (c : Thread nD τ) src fullShare X)
          -∗ wp frame (wpE (defs₀ (F := F)) 𝒱₀ (c : Thread nD τ) none) Set.univ (K ⟨⟩) Q)
        -∗ wp frame (wpE (defs₀ (F := F)) 𝒱₀ (c : Thread nD τ) none) Set.univ
            (.op (.enqueueDma src (.here dst) (.dma s) hsrc hdst hsem) K) Q) := by
  iintro ⟨Hx, Hw, Hs⟩ Hk
  unfold some'
  icases Hw with ⟨%Y, Hw⟩
  unfold owns
  icases Hx with ⟨%fs, %hfs, Hx⟩
  icases Hw with ⟨%fd, -, Hw⟩
  subst hfs
  iapply (wp_dmaLocal EC 𝒱₀ (c : Thread nD τ) none (sm := .dma s) () N (show dst.view.amount (.dma s) = N from hN) hN0 subset_rfl) $$ [Hx Hw Hs]
  · isplitl [Hx]; · iexact Hx
    isplitl [Hw]; · iexact Hw
    iexact Hs
  iintro HF
  iapply Hk
  iapply (Flight_mono EC (c : Thread nD τ) (by
    iintro ⟨Hd, Hs⟩
    isplitl [Hd]
    · iexists _
      isplitr
      rotate_left
      · iexact Hd
      · ipureintro
        exact View.read_write_univ _ _
    · iexists fs
      isplitr
      · ipureintro; rfl
      · iexact Hs)) $$ HF

/-- Starting the copies in: every chunk of the list goes on its way. -/
theorem wp_startIn (c : Dev nD) {α : Type} {Q : α → sProp 𝕄} {K : PUnit → Body F α} (ks : List (Fin 32)) :
    bigSepL ks (inReady m c)
      ⊢ iprop((bigSepL ks (inFlight m c) -∗ wp frame (wpE (defs₀ (F := F)) 𝒱₀ (c : Thread nD τ) none) Set.univ (K ⟨⟩) Q)
        -∗ wp frame (wpE (defs₀ (F := F)) 𝒱₀ (c : Thread nD τ) none) Set.univ (startIn ks >>= K) Q) := by
  induction ks with
  | nil =>
    simp only [startIn, Prog.pure_eq_ret, Prog.bind_ret]
    iintro H Hk
    iapply Hk
    iexact H
  | cons k ks ih =>
    simp only [startIn, Prog.lift, Prog.bind_op, Prog.bind_ret]
    rw [bigSepL_cons', bigSepL_cons']
    iintro ⟨H, HL⟩ Hk
    ihave H := (Entails.of_eq (inReady_eq m c k)) $$ H
    iapply (wp_copy c (xC k) (wC k) (inS k) (NC k) rfl (NC_pos k) (xBlk m c k)) $$ H
    iintro HF
    iapply ih $$ HL
    iintro HL
    iapply Hk
    isplitl [HF]
    · unfold inFlight; iexact HF
    · iexact HL

/-- Waiting for a copy: what it delivers, its semaphore at zero again, and what the device owes unchanged. -/
theorem wp_await (c : Dev nD) {sp sp' : Space} {sh : Shape} (src : Memref sig .tc sp sh .f32) (dst : Memref sig .tc sp' sh .f32)
    (s : DmaSem sig) (N : ℕ) (hN : dst.view.dmaCredit = N) (D : sProp 𝕄) (O : CellTallies nD τ sig Unit)
    {hsrc : src.view.WordExact} {hdst : dst.view.WordExact}
    {α : Type} {Q : α → sProp 𝕄} {K : PUnit → Body F α} :
    iprop(Flight EC (c : Thread nD τ) (.dma s) () N D ∗ (∃ W, owes (c : Thread nD τ) O W) ∗ MayWait (c : Thread nD τ) (.dma s) () O)
      ⊢ iprop((iprop(D ∗ semVal ((c : Thread nD τ), .dma s) 0 ∗ ∃ W, owes (c : Thread nD τ) O W)
          -∗ wp frame (wpE (defs₀ (F := F)) 𝒱₀ (c : Thread nD τ) none) Set.univ (K ⟨⟩) Q)
        -∗ wp frame (wpE (defs₀ (F := F)) 𝒱₀ (c : Thread nD τ) none) Set.univ
            (.op (.waitDma2 s src dst hsrc hdst) K) Q) := by
  iintro ⟨HF, ⟨%W, HO⟩, HM⟩ Hk
  iapply (wp_waitLocalO EC 𝒱₀ (c : Thread nD τ) none () hN) $$ [HF HO HM]
  · isplitl [HF]; · iexact HF
    isplitl [HO]; · iexact HO
    iexact HM
  iintro ⟨HD, HS, HO⟩
  iapply Hk
  isplitl [HD]; · iexact HD
  isplitl [HS]; · iexact HS
  iexists _; iexact HO

/-- Reading a chunk of the work buffer. -/
theorem wp_loadC (c : Dev nD) (k : Fin 32) (X : FVec F S256x1024 .f32) {α : Type} {Q : α → sProp 𝕄} {K : Vec F S256x1024 .f32 → Body F α} :
    owns (c : Thread nD τ) (wC k) fullShare X
      ⊢ iprop((owns (c : Thread nD τ) (wC k) fullShare X
          -∗ wp frame (wpE (defs₀ (F := F)) 𝒱₀ (c : Thread nD τ) none) Set.univ (K X) Q)
        -∗ wp frame (wpE (defs₀ (F := F)) 𝒱₀ (c : Thread nD τ) none) Set.univ (loadC k >>= K) Q) := by
  simp only [loadC, Prog.lift, Prog.bind_op, Prog.bind_ret]
  unfold owns
  iintro ⟨%f, %hf, H⟩ Hk
  iapply (wp_load_rect 𝒱₀ (c : Thread nD τ) none Set.univ (m := Memref.whole cc0_scratch0) (r := chunk k) subset_rfl) $$ H
  iintro H
  have e : ((Memref.whole cc0_scratch0 : Memref sig .tc _ _ _).access (chunk k)).read (Elt F) f = X := hf
  rw [e]
  iapply Hk
  iexists f
  isplitr
  · ipureintro; exact hf
  · iexact H

/-- The chunks with the sums before them, and the sum of all, as `accum` returns them. -/
def sums (c : Dev nD) : List (Fin 32) → FVec F S1x1024 .f32 → List (Fin 32 × FVec F S1x1024 .f32) × FVec F S1x1024 .f32
  | [], run => ([], run)
  | k :: ks, run =>
    let r := sums c ks (k0_pay3 run (k0_pay2 (xBlk m c k)))
    ((k, run) :: r.1, r.2)

/-- Waiting for the chunks of the list and adding up their columns: every chunk has arrived, the sums are known. -/
theorem wp_accum (c : Dev nD) (O : CellTallies nD τ sig Unit) {P : sProp 𝕄} [BI.Persistent P]
    (hP : ∀ k, P ⊢ MayWait (c : Thread nD τ) (.dma (inS k)) () O)
    {α : Type} {Q : α → sProp 𝕄} (ks : List (Fin 32)) (run : FVec F S1x1024 .f32)
    {K : List (Fin 32 × FVec F S1x1024 .f32) × FVec F S1x1024 .f32 → Body F α} :
    iprop(P ∗ bigSepL ks (inFlight m c) ∗ ∃ W, owes (c : Thread nD τ) O W)
      ⊢ iprop((iprop(bigSepL ks (inDone m c) ∗ ∃ W, owes (c : Thread nD τ) O W)
            -∗ wp frame (wpE (defs₀ (F := F)) 𝒱₀ (c : Thread nD τ) none) Set.univ (K (sums m c ks run)) Q)
        -∗ wp frame (wpE (defs₀ (F := F)) 𝒱₀ (c : Thread nD τ) none) Set.univ (accum ks run >>= K) Q) := by
  induction ks generalizing run K with
  | nil =>
    simp only [accum, sums, Prog.pure_eq_ret, Prog.bind_ret]
    iintro ⟨-, HL, HO⟩ Hk
    iapply Hk
    isplitl [HL]
    · iexact HL
    · iexact HO
  | cons k ks ih =>
    simp only [accum, sums, Prog.lift, Prog.bind_op, Prog.bind_ret, Prog.pure_eq_ret]
    rw [bigSepL_cons', bigSepL_cons']
    iintro ⟨#HP, ⟨HF, HL⟩, HO⟩ Hk
    ihave HF := (Entails.of_eq (inFlight_eq m c k)) $$ HF
    iapply (wp_await c (xC k) (wC k) (inS k) (NC k) rfl _ O) $$ [HF HO]
    · isplitl [HF]; · iexact HF
      isplitl [HO]; · iexact HO
      iapply (hP k); iexact HP
    iintro ⟨⟨Hw, Hx⟩, Hs, HO⟩
    simp only [Prog.bind_assoc]
    iapply (wp_loadC c k (xBlk m c k)) $$ Hw
    iintro Hw
    iapply (ih (k0_pay3 run (k0_pay2 (xBlk m c k)))) $$ [HL HO]
    · isplitr; · iexact HP
      isplitl [HL]; · iexact HL
      iexact HO
    iintro ⟨HL, HO⟩
    simp only [Prog.bind_ret]
    iapply Hk
    isplitr [HO]
    · isplitr [HL]
      · unfold inDone
        isplitl [Hw]; · iexact Hw
        isplitl [Hx]; · iexact Hx
        iexact Hs
      · iexact HL
    · iexact HO

/-- Chunk `k` of the result before its copy out, on its way, and arrived, `R` being what is written. -/
def outReady (c : Dev nD) (k : Fin 32) : sProp 𝕄 :=
  iprop(owns (c : Thread nD τ) (wC k) fullShare (xBlk m c k) ∗ some' c (oC k) ∗ semVal ((c : Thread nD τ), .dma (outS k)) 0)
/-- Chunk `k` of the result on its way out. -/
def outFlight (c : Dev nD) (R : Fin 32 → FVec F S256x1024 .f32) (k : Fin 32) : sProp 𝕄 :=
  Flight EC (c : Thread nD τ) (.dma (outS k)) () (NO k)
    iprop(owns (c : Thread nD τ) (oC k) fullShare (R k) ∗ owns (c : Thread nD τ) (wC k) fullShare (R k))
/-- Chunk `k` of the result arrived. -/
def outDone (c : Dev nD) (R : Fin 32 → FVec F S256x1024 .f32) (k : Fin 32) : sProp 𝕄 :=
  iprop((owns (c : Thread nD τ) (oC k) fullShare (R k) ∗ owns (c : Thread nD τ) (wC k) fullShare (R k)) ∗ semVal ((c : Thread nD τ), .dma (outS k)) 0)

/-- Chunk `k` of the result before its copy, written out. -/
theorem outReady_eq (c : Dev nD) (k : Fin 32) : outReady m c k
    = iprop(owns (c : Thread nD τ) (wC k) fullShare (xBlk m c k) ∗ some' c (oC k) ∗ semVal ((c : Thread nD τ), .dma (outS k)) 0) := rfl
/-- Chunk `k` of the result on its way out, written out. -/
theorem outFlight_eq (c : Dev nD) (R : Fin 32 → FVec F S256x1024 .f32) (k : Fin 32) : outFlight c R k
    = Flight EC (c : Thread nD τ) (.dma (outS k)) () (NO k)
        iprop(owns (c : Thread nD τ) (oC k) fullShare (R k) ∗ owns (c : Thread nD τ) (wC k) fullShare (R k)) := rfl

/-- Computing the chunks of the list and starting their copies out. -/
theorem wp_emit (c : Dev nD) (off : FVec F S1x1024 .f32) (R : Fin 32 → FVec F S256x1024 .f32)
    {α : Type} {Q : α → sProp 𝕄} {K : PUnit → Body F α} (ps : List (Fin 32 × FVec F S1x1024 .f32))
    (hR : ∀ kp ∈ ps, R kp.1 = k0_pay42 kp.2 off k0_pay39 (xBlk m c kp.1)) :
    bigSepL ps (fun kp => outReady m c kp.1)
      ⊢ iprop((bigSepL ps (fun kp => outFlight c R kp.1)
            -∗ wp frame (wpE (defs₀ (F := F)) 𝒱₀ (c : Thread nD τ) none) Set.univ (K ⟨⟩) Q)
        -∗ wp frame (wpE (defs₀ (F := F)) 𝒱₀ (c : Thread nD τ) none) Set.univ (emit off ps >>= K) Q) := by
  induction ps with
  | nil =>
    simp only [emit, Prog.pure_eq_ret, Prog.bind_ret]
    iintro H Hk
    iapply Hk
    iexact H
  | cons kp ps ih =>
    simp only [emit, Prog.lift, Prog.bind_op, Prog.bind_ret, Prog.bind_assoc]
    rw [bigSepL_cons', bigSepL_cons']
    iintro ⟨H, HL⟩ Hk
    ihave H := (Entails.of_eq (outReady_eq m c kp.1)) $$ H
    icases H with ⟨Hw, Ho, Hs⟩
    iapply (wp_loadC c kp.1 (xBlk m c kp.1)) $$ Hw
    iintro Hw
    iapply (wp_loadC c kp.1 (xBlk m c kp.1)) $$ Hw
    iintro Hw
    unfold owns
    icases Hw with ⟨%f, -, Hw⟩
    iapply (wp_store 𝒱₀ (c : Thread nD τ) none Set.univ (m := Memref.whole cc0_scratch0) (r := chunk kp.1) (Mk := Finset.univ)
      (S := (wC kp.1).view.set) (by exact subset_rfl)) $$ Hw
    iintro Hw
    iapply (wp_copy c (wC kp.1) (oC kp.1) (outS kp.1) (NO kp.1) rfl (NO_pos kp.1) (R kp.1)) $$ [Hw Ho Hs]
    · isplitl [Hw]
      · unfold owns
        iexists _
        isplitr
        rotate_left
        · iexact Hw
        · ipureintro
          rw [hR kp List.mem_cons_self]
          exact View.read_write_univ _ _
      isplitl [Ho]; · iexact Ho
      iexact Hs
    iintro HF
    iapply (ih fun kp' h => hR kp' (List.mem_cons_of_mem _ h)) $$ HL
    iintro HL
    iapply Hk
    isplitl [HF]
    · unfold outFlight; iexact HF
    · iexact HL

/-- Waiting for the copies out of the list. -/
theorem wp_drain (c : Dev nD) (R : Fin 32 → FVec F S256x1024 .f32)
    {α : Type} {Q : α → sProp 𝕄} {K : PUnit → Body F α} (ks : List (Fin 32)) :
    iprop(bigSepL ks (outFlight c R) ∗ ∃ W, owes (c : Thread nD τ) 0 W)
      ⊢ iprop((iprop(bigSepL ks (outDone c R) ∗ ∃ W, owes (c : Thread nD τ) 0 W)
            -∗ wp frame (wpE (defs₀ (F := F)) 𝒱₀ (c : Thread nD τ) none) Set.univ (K ⟨⟩) Q)
        -∗ wp frame (wpE (defs₀ (F := F)) 𝒱₀ (c : Thread nD τ) none) Set.univ (drain ks >>= K) Q) := by
  induction ks with
  | nil =>
    simp only [drain, Prog.pure_eq_ret, Prog.bind_ret]
    iintro H Hk
    iapply Hk
    iexact H
  | cons k ks ih =>
    simp only [drain, Prog.lift, Prog.bind_op, Prog.bind_ret]
    rw [bigSepL_cons', bigSepL_cons']
    iintro ⟨⟨HF, HL⟩, HO⟩ Hk
    ihave HF := (Entails.of_eq (outFlight_eq c R k)) $$ HF
    iapply (wp_await c (wC k) (oC k) (outS k) (NO k) rfl _ 0) $$ [HF HO]
    · isplitl [HF]; · iexact HF
      isplitl [HO]; · iexact HO
      rw [MayWait_zero]; iempintro
    iintro ⟨HD, Hs, HO⟩
    iapply ih $$ [HL HO]
    · isplitl [HL]; · iexact HL
      iexact HO
    iintro ⟨HL, HO⟩
    iapply Hk
    isplitr [HO]
    · isplitr [HL]
      · unfold outDone
        isplitl [HD]; · iexact HD
        iexact Hs
      · iexact HL
    · iexact HO

end Cert.ScanProof

end
-- ==== Proof.Protocol.lean ====
module

public import proofs.«01_k».proof.Proof.Loops

/-!
# The protocol between the devices

Each device `c` has a barrier cell with three duties of one unit, a send cell and a receive cell for each of its three
transfers. Duty `d` of `c`'s barrier cell is paid by the device `d + 1` places before `c`, and hands over the row of that
device's table that `c` writes. The receive cell `j` of `c` is paid by the transfer into row `j` of `c`'s table, which
comes from the device `j + 1` places before `c` and carries that device's total. The send cell `j` gives the share of `c`'s total the
transfer read back.
-/

@[expose] public section

noncomputable section

namespace Cert.ScanProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The cells -/

/-- What a semaphore is for: the barrier, a send, a receive, or a local copy. -/
inductive Role
  | bar | send (j : Fin 3) | recv (j : Fin 3) | copy
  deriving DecidableEq

/-- The part that a semaphore plays. -/
def role (s : SemLoc sig) : Role :=
  if s = .reg barS then .bar
  else if s = .dma (sendS 0) then .send 0 else if s = .dma (sendS 1) then .send 1 else if s = .dma (sendS 2) then .send 2
  else if s = .dma (recvS 0) then .recv 0 else if s = .dma (recvS 1) then .recv 1 else if s = .dma (recvS 2) then .recv 2
  else .copy

/-- The barrier's semaphore. -/
theorem role_bar : role (.reg barS) = .bar := by decide +kernel
/-- The semaphore of send `j`. -/
theorem role_send (j : Fin 3) : role (.dma (sendS j)) = .send j := by revert j; decide +kernel
/-- The semaphore of receipt `j`. -/
theorem role_recv (j : Fin 3) : role (.dma (recvS j)) = .recv j := by revert j; decide +kernel
/-- The semaphore of a copy in. -/
theorem role_in (k : Fin 32) : role (.dma (inS k)) = .copy := by revert k; decide +kernel

/-- A device's barrier cell. -/
abbrev barCell (c : Dev nD) : GSem nD τ sig := ((c : Thread nD τ), .reg barS)
/-- A device's cell of send `j`. -/
abbrev sendCell (j : Fin 3) (c : Dev nD) : GSem nD τ sig := ((c : Thread nD τ), .dma (sendS j))
/-- A device's cell of receipt `j`. -/
abbrev recvCell (j : Fin 3) (c : Dev nD) : GSem nD τ sig := ((c : Thread nD τ), .dma (recvS j))

/-- The seven semaphores of the protocol on one device: the barrier's, the sends', the receives'. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
/-- A device's cell among the seven. -/
abbrev kcell (ck : Dev nD × Fin 7) : GSem nD τ sig := ((ck.1 : Thread nD τ), csem ck.2)
/-- Send `j`'s number among the seven. -/
abbrev sIx (j : Fin 3) : Fin 7 := ⟨j.val + 1, by omega⟩
/-- Receipt `j`'s number among the seven. -/
abbrev rIx (j : Fin 3) : Fin 7 := ⟨j.val + 4, by omega⟩
/-- The cell of a send, by number. -/
theorem kcell_send (j : Fin 3) (c : Dev nD) : kcell (c, sIx j) = sendCell j c := by fin_cases j <;> rfl
/-- The cell of a receipt, by number. -/
theorem kcell_recv (j : Fin 3) (c : Dev nD) : kcell (c, rIx j) = recvCell j c := by fin_cases j <;> rfl

/-- A row's credit. -/
def NR : ℕ := (totM : Memref sig .tc .vmem S1x1024 .f32).view.dmaCredit
/-- A row's credit is positive. -/
theorem NR_pos : 0 < NR := View.dmaCredit_pos _ (by decide)
/-- A row of the table has the credit of the total. -/
theorem row_credit (j : Fin 3) : (rowM j).view.dmaCredit = NR := rfl

/-! ## The payloads and the schedule -/

/-- The share of its total a device lends to transfer `j`. -/
abbrev lent (j : Fin 3) : PosShare TreeShare := shareTok fullShare 3 j

/-- What a signal of the barrier hands over: the signaller's table row that this device will write, its receive cell at the start. -/
def barPay (c : Dev nD) (d : Fin 3) : sProp 𝕄 := iprop(some' (bwd d c) (rowM d.rev) ∗ reached ER (recvCell d.rev (bwd d c)) 0)
/-- What a receipt hands over: the row, holding the sender's total. -/
def recvPay (c : Dev nD) (j : Fin 3) : sProp 𝕄 := owns (c : Thread nD τ) (rowM j) fullShare (total m (bwd j c))
/-- What a send gives back: the lent share of the total. -/
def sendPay (c : Dev nD) (j : Fin 3) : sProp 𝕄 := owns (c : Thread nD τ) totM (lent j) (total m c)

/-- A signal's payload may be kept inside an invariant. -/
instance barPay_storable (c : Dev nD) (d : Fin 3) : BI.Storable (upEmb : UEmb _ 𝕄) (barPay (F := F) c d) := by unfold barPay; infer_instance
/-- A receipt's payload may be kept inside an invariant. -/
instance recvPay_storable (c : Dev nD) (d : Fin 3) : BI.Storable (upEmb : UEmb _ 𝕄) (recvPay m c d) := by unfold recvPay; infer_instance
/-- A send's payload may be kept inside an invariant. -/
instance sendPay_storable (c : Dev nD) (d : Fin 3) : BI.Storable (upEmb : UEmb _ 𝕄) (sendPay m c d) := by unfold sendPay; infer_instance

/-- The duties of a cell: three signals, or one copy. -/
def dutiesOf : Role → Finset (Fin 3)
  | .bar => Finset.univ | .send _ => {0} | .recv _ => {0} | .copy => ∅
/-- The units of a duty: one for a signal, a row's credit for a copy. -/
def amountOf' : Role → ℕ
  | .bar => 1 | _ => NR
/-- What a duty hands over. -/
def payOf (c : Dev nD) (d : Fin 3) : Role → sProp 𝕄
  | .bar => barPay c d | .send j => sendPay m c j | .recv j => recvPay m c j | .copy => iprop(emp)

/-- A duty's payload may be kept inside an invariant. -/
instance payOf_storable (c : Dev nD) (d : Fin 3) (r : Role) : BI.Storable (upEmb : UEmb _ 𝕄) (payOf m c d r) := by
  cases r <;> (unfold payOf; dsimp only; infer_instance)

/-- The schedule: one round for every cell. -/
def scanRd : Rounds.Schedule (GSem nD τ sig) (Fin 3) 𝕄 where
  duties g r := if r = 0 ∧ g.1.2 = .tc then dutiesOf (role g.2) else ∅
  unitless _ := False
  amount g _ _ := amountOf' (role g.2)
  payload g _ d := payOf m g.1.1 d (role g.2)
  amount_pos g _ _ _ := by
    cases role g.2 <;> first | exact Nat.one_pos | exact NR_pos

/-- The schedule's payloads may be kept inside invariants. -/
instance scanRd_payload_storable (g : GSem nD τ sig) (r : ℕ) (d : Fin 3) :
    BI.Storable (upEmb : UEmb _ 𝕄) ((scanRd m).payload g r d) := payOf_storable m g.1.1 d (role g.2)

section Sched
variable (c : Dev nD) (j : Fin 3)

/-- The barrier cell has three duties. -/
theorem duties_bar : (scanRd m).duties (barCell c) 0 = Finset.univ := by
  dsimp only [scanRd]; rw [if_pos ⟨rfl, rfl⟩, role_bar]; rfl
/-- A send cell has one duty. -/
theorem duties_send : (scanRd m).duties (sendCell j c) 0 = {0} := by
  dsimp only [scanRd]; rw [if_pos ⟨rfl, rfl⟩, role_send]; rfl
/-- A receive cell has one duty. -/
theorem duties_recv : (scanRd m).duties (recvCell j c) 0 = {0} := by
  dsimp only [scanRd]; rw [if_pos ⟨rfl, rfl⟩, role_recv]; rfl
/-- No cell has a second round. -/
theorem duties_later (g : GSem nD τ sig) : ∀ r, 1 ≤ r → (scanRd m).duties g r = ∅ :=
  fun r hr => by dsimp only [scanRd]; rw [if_neg fun h => by omega]
/-- A signal is one unit. -/
theorem amount_bar (d : Fin 3) : (scanRd m).amount (barCell c) 0 d = 1 := by dsimp only [scanRd]; rw [role_bar]; rfl
/-- A send pays a row's credit. -/
theorem amount_send (d : Fin 3) : (scanRd m).amount (sendCell j c) 0 d = NR := by dsimp only [scanRd]; rw [role_send]; rfl
/-- A receipt is a row's credit. -/
theorem amount_recv (d : Fin 3) : (scanRd m).amount (recvCell j c) 0 d = NR := by dsimp only [scanRd]; rw [role_recv]; rfl
/-- A signal's payload. -/
theorem payload_bar (d : Fin 3) : (scanRd m).payload (barCell c) 0 d = barPay c d := by dsimp only [scanRd]; rw [role_bar]; rfl
/-- A send's payload. -/
theorem payload_send (d : Fin 3) : (scanRd m).payload (sendCell j c) 0 d = sendPay m c j := by dsimp only [scanRd]; rw [role_send]; rfl
/-- A receipt's payload. -/
theorem payload_recv (d : Fin 3) : (scanRd m).payload (recvCell j c) 0 d = recvPay m c j := by dsimp only [scanRd]; rw [role_recv]; rfl
/-- Three units are waited for on the barrier. -/
theorem expect_bar : (scanRd m).expect (barCell c) 0 = 3 := by
  unfold Schedule.expect Schedule.amountOf
  rw [duties_bar, Finset.sum_congr rfl fun d _ => amount_bar m c d, Finset.sum_const, Finset.card_univ, Fintype.card_fin, smul_eq_mul]
/-- A row's credit is waited for on a send cell. -/
theorem expect_send : (scanRd m).expect (sendCell j c) 0 = NR := by
  unfold Schedule.expect Schedule.amountOf; rw [duties_send, Finset.sum_singleton, amount_send]
/-- A row's credit is waited for on a receive cell. -/
theorem expect_recv : (scanRd m).expect (recvCell j c) 0 = NR := by
  unfold Schedule.expect Schedule.amountOf; rw [duties_recv, Finset.sum_singleton, amount_recv]

/-- The barrier's wait hands over the three signals' payloads. -/
theorem rest_bar : bigSep ((scanRd m).duties (barCell c) 0 \ ∅) (fun d => (scanRd m).payload (barCell c) 0 d)
    = bigSep Finset.univ fun d => barPay (F := F) c d := by
  rw [Finset.sdiff_empty, duties_bar]; exact bigSep_congr fun d _ => payload_bar m c d
/-- A send's wait gives back the lent share. -/
theorem rest_send : bigSep ((scanRd m).duties (sendCell j c) 0 \ ∅) (fun d => (scanRd m).payload (sendCell j c) 0 d) = sendPay m c j := by
  rw [Finset.sdiff_empty, duties_send, bigSep_singleton, payload_send]
/-- A receipt's wait hands over the row. -/
theorem rest_recv : bigSep ((scanRd m).duties (recvCell j c) 0 \ ∅) (fun d => (scanRd m).payload (recvCell j c) 0 d) = recvPay m c j := by
  rw [Finset.sdiff_empty, duties_recv, bigSep_singleton, payload_recv]

end Sched

/-! ## What each device owes; the levels -/

/-- The three receive credits device `c` owes, summed so that the transfers peel the last summand in order. -/
def OR2 (c : Dev nD) : CellTallies nD τ sig Unit := 0 + tallyAt (recvCell 2 (fwd 2 c)) () NR
/-- What is owed after the first copy. -/
def OR1 (c : Dev nD) : CellTallies nD τ sig Unit := OR2 c + tallyAt (recvCell 1 (fwd 1 c)) () NR
/-- What is owed before the copies. -/
def OR0 (c : Dev nD) : CellTallies nD τ sig Unit := OR1 c + tallyAt (recvCell 0 (fwd 0 c)) () NR
/-- and before them the units on the other devices' barrier cells. -/
def OB2 (c : Dev nD) : CellTallies nD τ sig Unit := OR0 c + tallyAt (barCell (fwd 2 c)) () 1
/-- What is owed after the first signal. -/
def OB1 (c : Dev nD) : CellTallies nD τ sig Unit := OB2 c + tallyAt (barCell (fwd 1 c)) () 1
/-- What a device owes at launch. -/
def O₀ (c : Dev nD) : CellTallies nD τ sig Unit := OB1 c + tallyAt (barCell (fwd 0 c)) () 1

/-- The TensorCore's cells are those with levels. -/
def L (g : GSem nD τ sig) : Finset Unit := if g.1.2 = .tc then {()} else ∅
/-- Barrier cells at 1, receive cells at 2, everything else at 0. -/
def lv (g : GSem nD τ sig) (_ : Unit) : ℕ := match role g.2 with
  | .bar => 1 | .recv _ => 2 | _ => 0

/-- No other cell has a level. -/
theorem L_of_ne (g : GSem nD τ sig) (h : g.1.2 ≠ .tc) : L g = ∅ := if_neg h
/-- A TensorCore's cell has one. -/
theorem L_tc (c : Dev nD) (sm : SemLoc sig) : L ((c : Thread nD τ), sm) = {()} := if_pos rfl

/-- Before the copies only receipts of other devices are owed. -/
theorem OR0_pos {c : Dev nD} {g : GSem nD τ sig} {u : Unit} (h : 0 < OR0 c g u) : ∃ j, g = recvCell j (fwd j c) := by
  unfold OR0 OR1 OR2 at h
  simp only [Pi.add_apply, Finsupp.add_apply, tallyAt_apply, Pi.zero_apply, Finsupp.zero_apply] at h
  by_contra hn
  rw [not_exists] at hn
  rw [if_neg (fun h' => hn 2 h'.1), if_neg (fun h' => hn 1 h'.1), if_neg (fun h' => hn 0 h'.1)] at h
  exact Nat.lt_irrefl 0 h

/-- A wait on a semaphore below the receive cells is allowed while the receive credits are owed. -/
theorem mayWait_low (c : Dev nD) (sm : SemLoc sig) (hs : lv ((c : Thread nD τ), sm) () ≤ 1) :
    (levAts L lv : sProp 𝕄) ⊢ MayWait (c : Thread nD τ) sm () (OR0 c) :=
  MayOwe.of_cut (L := L) (lev := lv) 1 (fun p hp => by rw [Finset.mem_singleton.mp hp, L_tc]; exact Finset.mem_singleton_self _)
    (fun g u hg => by obtain ⟨j, rfl⟩ := OR0_pos hg; rw [L_tc]; exact Finset.mem_singleton_self _)
    (fun p hp => by rw [Finset.mem_singleton.mp hp]; exact hs)
    (fun g u hg => by obtain ⟨j, rfl⟩ := OR0_pos hg; unfold lv; rw [role_recv]; exact Nat.lt_succ_self 1)

/-- The barrier may be waited on before the copies. -/
theorem mayWait_bar (c : Dev nD) : (levAts L lv : sProp 𝕄) ⊢ MayWait (c : Thread nD τ) (.reg barS) () (OR0 c) :=
  mayWait_low c _ (by unfold lv; rw [role_bar])
/-- A copy in may be waited for before the copies between devices. -/
theorem mayWait_in (c : Dev nD) (k : Fin 32) : (levAts L lv : sProp 𝕄) ⊢ MayWait (c : Thread nD τ) (.dma (inS k)) () (OR0 c) :=
  mayWait_low c _ (by unfold lv; rw [role_in]; exact Nat.zero_le 1)

/-! ## The ghost state a device starts from -/

/-- The cells' invariants under the names the launch allocated them at, and that every cell has reached its round. -/
def records (K : Dev nD × Fin 7 → ℕ) : sProp 𝕄 :=
  iprop((bigSep Finset.univ fun ck : Dev nD × Fin 7 => cellInv ER (scanRd m) (K ck) (kcell ck))
    ∗ bigSep Finset.univ fun ck : Dev nD × Fin 7 => reached ER (kcell ck) 0)

/-- The records may be used again and again. -/
instance records_persistent (K : Dev nD × Fin 7 → ℕ) : BI.Persistent (records m K) := by unfold records; infer_instance

/-- The invariant of a cell. -/
theorem inv_at (K : Dev nD × Fin 7 → ℕ) (ck : Dev nD × Fin 7) : records m K ⊢ cellInv ER (scanRd m) (K ck) (kcell ck) := by
  have h : (bigSep Finset.univ fun ck : Dev nD × Fin 7 => cellInv ER (scanRd m) (K ck) (kcell ck))
      ⊢ cellInv ER (scanRd m) (K ck) (kcell ck) := bigSep_elim (Finset.mem_univ ck)
  unfold records
  iintro ⟨H, -⟩
  iapply h; iexact H
/-- A cell has reached its round. -/
theorem reached_at (K : Dev nD × Fin 7 → ℕ) (ck : Dev nD × Fin 7) : records m K ⊢ reached ER (kcell ck) 0 := by
  have h : (bigSep Finset.univ fun ck : Dev nD × Fin 7 => (reached ER (kcell ck) 0 : sProp 𝕄))
      ⊢ reached ER (kcell ck) 0 := bigSep_elim (Finset.mem_univ ck)
  unfold records
  iintro ⟨-, H⟩
  iapply h; iexact H

/-- The barrier cell's invariant. -/
theorem inv_bar (K : Dev nD × Fin 7 → ℕ) (c : Dev nD) : records m K ⊢ cellInv ER (scanRd m) (K (c, 0)) (barCell c) := inv_at m K (c, 0)
/-- A send cell's invariant. -/
theorem inv_send (K : Dev nD × Fin 7 → ℕ) (j : Fin 3) (c : Dev nD) : records m K ⊢ cellInv ER (scanRd m) (K (c, sIx j)) (sendCell j c) :=
  kcell_send j c ▸ inv_at m K (c, sIx j)
/-- A receive cell's invariant. -/
theorem inv_recv (K : Dev nD × Fin 7 → ℕ) (j : Fin 3) (c : Dev nD) : records m K ⊢ cellInv ER (scanRd m) (K (c, rIx j)) (recvCell j c) :=
  kcell_recv j c ▸ inv_at m K (c, rIx j)
/-- The barrier cell has reached its round. -/
theorem reached_bar (K : Dev nD × Fin 7 → ℕ) (c : Dev nD) : records m K ⊢ reached ER (barCell c) 0 := reached_at m K (c, 0)
/-- A send cell has reached its round. -/
theorem reached_send (K : Dev nD × Fin 7 → ℕ) (j : Fin 3) (c : Dev nD) : records m K ⊢ reached ER (sendCell j c) 0 :=
  kcell_send j c ▸ reached_at m K (c, sIx j)
/-- A receive cell has reached its round. -/
theorem reached_recv (K : Dev nD × Fin 7 → ℕ) (j : Fin 3) (c : Dev nD) : records m K ⊢ reached ER (recvCell j c) 0 :=
  kcell_recv j c ▸ reached_at m K (c, rIx j)

/-! ## The steps -/

section Steps

variable (K : Dev nD × Fin 7 → ℕ) (c : Dev nD)

/-- The signal to the device `j + 1` places on, handing it the row it will write. -/
theorem wp_sig (j : Fin 3) (p : Dev nD) (hp : p = fwd j c) (O O' : CellTallies nD τ sig Unit) (hO : O = O' + tallyAt (barCell (fwd j c)) () 1)
    {α : Type} {Q : α → sProp 𝕄} {k : PUnit → Body F α} :
    iprop(records m K ∗ dutyTok ER (barCell (fwd j c)) 0 j ∗ some' c (rowM j.rev) ∗ ∃ W, owes (c : Thread nD τ) O W)
      ⊢ iprop(((∃ W, owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ (semSignalWord p barS 1#32 >>= k) Q) := by
  subst hp
  simp only [semSignalWord, Prog.lift, Prog.bind_op, Prog.bind_ret]
  iintro ⟨#HR, Ht, Hrow, ⟨%W, HO⟩⟩ Hk
  iapply (Rounds.wp_signal 𝒱₀ ER (scanRd m) (c : Thread nD τ) none (dst := (fwd j c : Thread nD τ)) (κ := K (fwd j c, 0))
      (r := 0) (d := j) (by rw [duties_bar]; exact Finset.mem_univ _) ((amount_bar m (fwd j c) j).trans (by decide)) () O' hO) $$ [HO Ht Hrow]
  · isplitr; · iapply (inv_bar m K (fwd j c)); iexact HR
    isplitl [HO]; · iexact HO
    isplitl [Ht]; · iexact Ht
    isplitl [Hrow]
    · rw [payload_bar]; unfold barPay; rw [bwd_fwd]
      isplitl [Hrow]; · iexact Hrow
      iapply (reached_recv m K j.rev c); iexact HR
    · iapply (reached_bar m K (fwd j c)); iexact HR
  iintro HO
  iapply Hk
  iexists W; iexact HO

/-- The wait for the three signals: the rows the device will write on the others. -/
theorem wp_barWait {α : Type} {Q : α → sProp 𝕄} {k : PUnit → Body F α} :
    iprop(records m K ∗ levAts L lv ∗ cred (tallyAt (barCell c) () 3) ∗ atPos ER (barCell c) 0 ∅ 0 ∗ ∃ W, owes (c : Thread nD τ) (OR0 c) W)
      ⊢ iprop((iprop((∃ W, owes (c : Thread nD τ) (OR0 c) W) ∗ atPos ER (barCell c) 1 ∅ 0 ∗ bigSep Finset.univ fun d => barPay (F := F) c d)
            -∗ wp frame (wpE (defs₀ (F := F)) 𝒱₀ (c : Thread nD τ) none) Set.univ (k ⟨⟩) Q)
          -∗ wp frame (wpE (defs₀ (F := F)) 𝒱₀ (c : Thread nD τ) none) Set.univ (semWaitWord barS 3#32 >>= k) Q) := by
  simp only [semWaitWord, Prog.lift, Prog.bind_op, Prog.bind_ret]
  iintro ⟨#HR, #Hlev, Hc, Hat, ⟨%W, HO⟩⟩ Hk
  iapply (Rounds.wp_wait_rest_token 𝒱₀ ER (scanRd m) (c : Thread nD τ) none (κ := K (c, 0))
      (wpE_semWait_eq 𝒱₀ (c : Thread nD τ) none Set.univ) (Set.mem_univ _) () (O := OR0 c) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  iapply (Entails.of_eq (rest_bar m c)); iexact Hpay

/-- The transfer of the total into row `j` of the device `j + 1` places on. -/
theorem wp_sendTo (j : Fin 3) (p : Dev nD) (hp : p = fwd j c) (O O' : CellTallies nD τ sig Unit) (hO : O = O' + tallyAt (recvCell j (fwd j c)) () NR)
    {α : Type} {Q : α → sProp 𝕄} {k : PUnit → Body F α} :
    iprop(records m K ∗ owns (c : Thread nD τ) totM (lent j) (total m c) ∗ some' (fwd j c) (rowM j)
        ∗ dutyTok ER (sendCell j c) 0 0 ∗ dutyTok ER (recvCell j (fwd j c)) 0 0 ∗ ∃ W, owes (c : Thread nD τ) O W)
      ⊢ iprop((iprop(cred (tallyAt (sendCell j c) () NR) ∗ ∃ W, owes (c : Thread nD τ) O' W)
            -∗ wp frame (wpE (defs₀ (F := F)) 𝒱₀ (c : Thread nD τ) none) Set.univ (k ⟨⟩) Q)
          -∗ wp frame (wpE (defs₀ (F := F)) 𝒱₀ (c : Thread nD τ) none) Set.univ (sendTo p j >>= k) Q) := by
  subst hp
  simp only [sendTo, Prog.lift, Prog.bind_op, Prog.bind_ret]
  unfold some'
  iintro ⟨#HR, Hx, ⟨%Y, Hrow⟩, HtS, HtR, ⟨%W, HO⟩⟩ Hk
  unfold owns
  icases Hx with ⟨%fs, %hfs, Hx⟩
  icases Hrow with ⟨%fd, -, Hrow⟩
  iapply (Rounds.wp_send_pointsTo 𝒱₀ ER (scanRd m) (c : Thread nD τ) none (κ₁ := K (c, sIx j)) (κ₂ := K (fwd j c, rIx j))
    (r₁ := 0) (r₂ := 0) (d₁ := 0) (d₂ := 0) (fd := fd) (fs := fs) (q := lent j)
    (by rw [duties_send]; exact Finset.mem_singleton_self _) (by rw [duties_recv]; exact Finset.mem_singleton_self _)
    () () NR (show (rowM j).view.amount (.dma (recvS j)) = NR from row_credit j) (amount_send m c j 0) (amount_recv m (fwd j c) j 0) O' hO (W := W)
    (by rw [payload_send]; unfold sendPay; rw [← hfs]; exact owns_intro _ _ _ _)
    (by
      rw [payload_recv]; unfold recvPay; rw [bwd_fwd]
      refine (owns_intro _ _ _ _).trans (Entails.of_eq ?_)
      congr 1
      exact (View.read_write_univ _ _).trans hfs)) $$ [Hx Hrow HtS HtR HO]
  · isplitr; · iapply (inv_send m K j c); iexact HR
    isplitr; · iapply (inv_recv m K j (fwd j c)); iexact HR
    isplitl [Hx]; · iexact Hx
    isplitl [Hrow]; · iexact Hrow
    isplitl [HO]; · iexact HO
    isplitl [HtS]; · iexact HtS
    isplitr; · iapply (reached_send m K j c); iexact HR
    isplitl [HtR]; · iexact HtR
    iapply (reached_recv m K j (fwd j c)); iexact HR
  iintro ⟨Hc, HO⟩
  iapply Hk
  isplitl [Hc]; · iexact Hc
  iexists W; iexact HO

/-- The wait for transfer `j` to have been sent: the share of the total back, and the cell closed. -/
theorem wp_waitSent (j : Fin 3) {α : Type} {Q : α → sProp 𝕄} {k : PUnit → Body F α} :
    iprop(records m K ∗ cred (tallyAt (sendCell j c) () NR) ∗ atPos ER (sendCell j c) 0 ∅ 0 ∗ ∃ W, owes (c : Thread nD τ) 0 W)
      ⊢ iprop((iprop(sendPay m c j ∗ semVal (sendCell j c) 0 ∗ ∃ W, owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ (waitSent j >>= k) Q) := by
  simp only [waitSent, Prog.lift, Prog.bind_op, Prog.bind_ret]
  iintro ⟨#HR, Hc, Hat, ⟨%W, HO⟩⟩ Hk
  iapply (Rounds.wp_wait_rest_token 𝒱₀ ER (scanRd m) (c : Thread nD τ) none (κ := K (c, sIx j))
      (wpE_waitDma2_eq 𝒱₀ (c : Thread nD τ) none Set.univ) (Set.mem_univ _) () (O := 0) (W := W) (R := 0) (m := 0) (T := ∅)
      (by rw [Nat.zero_add, expect_send]; rfl)) $$ [Hc HO Hat]
  · isplitr; · iapply (inv_send m K j c); iexact HR
    isplitl [Hc]; · iexact Hc
    isplitl [HO]; · iexact HO
    isplitr; · rw [MayWait_zero]; iempintro
    iexact Hat
  iintro ⟨HO, Hat, -, Hpay⟩
  imod (Rounds.cell_close ER (scanRd m) (Set.mem_univ (K (c, sIx j))) (fun h => h) (R := 0 + 1) (duties_later m (sendCell j c))) $$ [Hat] with Hz
  · isplitr; · iapply (inv_send m K j c); iexact HR
    iexact Hat
  iapply Hk
  isplitl [Hpay]; · iapply (Entails.of_eq (rest_send m c j)); iexact Hpay
  isplitl [Hz]; · iexact Hz
  iexists _; iexact HO

/-- The wait for the total that comes into row `j`. -/
theorem wp_waitRecv (j : Fin 3) {α : Type} {Q : α → sProp 𝕄} {k : PUnit → Body F α} :
    iprop(records m K ∗ cred (tallyAt (recvCell j c) () NR) ∗ atPos ER (recvCell j c) 0 ∅ 0 ∗ ∃ W, owes (c : Thread nD τ) 0 W)
      ⊢ iprop((iprop(recvPay m c j ∗ semVal (recvCell j c) 0 ∗ ∃ W, owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ (waitRecv j >>= k) Q) := by
  simp only [waitRecv, Prog.lift, Prog.bind_op, Prog.bind_ret]
  iintro ⟨#HR, Hc, Hat, ⟨%W, HO⟩⟩ Hk
  iapply (Rounds.wp_wait_rest_token 𝒱₀ ER (scanRd m) (c : Thread nD τ) none (κ := K (c, rIx j))
      (wpE_waitDma2_eq 𝒱₀ (c : Thread nD τ) none Set.univ) (Set.mem_univ _) () (O := 0) (W := W) (R := 0) (m := 0) (T := ∅)
      (by rw [Nat.zero_add, expect_recv]; exact row_credit j)) $$ [Hc HO Hat]
  · isplitr; · iapply (inv_recv m K j c); iexact HR
    isplitl [Hc]; · iexact Hc
    isplitl [HO]; · iexact HO
    isplitr; · rw [MayWait_zero]; iempintro
    iexact Hat
  iintro ⟨HO, Hat, -, Hpay⟩
  imod (Rounds.cell_close ER (scanRd m) (Set.mem_univ (K (c, rIx j))) (fun h => h) (R := 0 + 1) (duties_later m (recvCell j c))) $$ [Hat] with Hz
  · isplitr; · iapply (inv_recv m K j c); iexact HR
    iexact Hat
  iapply Hk
  isplitl [Hpay]; · iapply (Entails.of_eq (rest_recv m c j)); iexact Hpay
  isplitl [Hz]; · iexact Hz
  iexists _; iexact HO

end Steps

end Cert.ScanProof

end
-- ==== Proof.Same.lean ====
module

public import proofs.«01_k».proof.Proof.Steps

@[expose] public section

noncomputable section

namespace Cert.ScanProof

open Idealize.ShloMosaic Idealize.ShloMosaic.TcCoe Idealize.SL Idealize.SL.Sem
open Cert.KernelIdeal Cert.KernelIdeal.Gen

variable {F : FTy → Type} [FloatOps F]

set_option maxRecDepth 1000000 in
set_option maxHeartbeats 40000000 in
/-- The printed body is the folded one. -/
theorem body_eq (t : Fin cfg0.N) : bodyAt0 (F := F) t = scanBody := by
  unfold bodyAt0
  simp (maxSteps := 100000000) only [cc0_body_eq_skeleton, cc0_body_skel,
    k0_part1_eq_skeleton, k0_part1_skel,
    k0_part2_eq_skeleton, k0_part2_skel,
    k0_part3_eq_skeleton, k0_part3_skel,
    k0_part4_eq_skeleton, k0_part4_skel,
    k0_part5_eq_skeleton, k0_part5_skel,
    k0_part6_eq_skeleton, k0_part6_skel,
    k0_part7_eq_skeleton, k0_part7_skel,
    k0_part8_eq_skeleton, k0_part8_skel,
    k0_part9_eq_skeleton, k0_part9_skel,
    k0_part10_eq_skeleton, k0_part10_skel,
    k0_part11_eq_skeleton, k0_part11_skel,
    k0_part12_eq_skeleton, k0_part12_skel,
    k0_part13_eq_skeleton, k0_part13_skel,
    k0_part14_eq_skeleton, k0_part14_skel,
    k0_part15_eq_skeleton, k0_part15_skel,
    k0_part16_eq_skeleton, k0_part16_skel,
    k0_part17_eq_skeleton, k0_part17_skel,
    k0_part18_eq_skeleton, k0_part18_skel,
    k0_part19_eq_skeleton, k0_part19_skel,
    k0_part20_eq_skeleton, k0_part20_skel,
    k0_part21_eq_skeleton, k0_part21_skel,
    k0_part22_eq_skeleton, k0_part22_skel,
    k0_part23_eq_skeleton, k0_part23_skel,
    k0_part24_eq_skeleton, k0_part24_skel,
    k0_part25_eq_skeleton, k0_part25_skel,
    k0_part26_eq_skeleton, k0_part26_skel,
    k0_part27_eq_skeleton, k0_part27_skel,
    k0_part28_eq_skeleton, k0_part28_skel,
    k0_part29_eq_skeleton, k0_part29_skel,
    k0_part30_eq_skeleton, k0_part30_skel,
    k0_part31_eq_skeleton, k0_part31_skel,
    k0_part32_eq_skeleton, k0_part32_skel,
    k0_part33_eq_skeleton, k0_part33_skel,
    k0_part34_eq_skeleton, k0_part34_skel,
    k0_part35_eq_skeleton, k0_part35_skel,
    k0_part36_eq_skeleton, k0_part36_skel,
    k0_part37_eq_skeleton, k0_part37_skel,
    k0_part38_eq_skeleton, k0_part38_skel,
    Prog.lift, Prog.bind_op, Prog.bind_ret, Prog.pure_eq_ret, semSignalWord, semWaitWord]
  simp (maxSteps := 100000000) only [scanBody, startIn, accum, emit, drain, shake, exchange, putTotal, loadAll, loadC, sendTo, waitSent, waitRecv,
    Prog.lift, Prog.bind_op, Prog.bind_ret, Prog.pure_eq_ret, semSignalWord, semWaitWord]
  rfl

end Cert.ScanProof

end
-- ==== Proof.Body.lean ====
module

public import proofs.«01_k».proof.Proof.Protocol
public import proofs.«01_k».proof.Proof.Same

/-!
# The body of the kernel

The body run from what a device starts with to what it ends with: its block of the result in place, its input unchanged,
every semaphore back at zero.
-/

@[expose] public section

noncomputable section

namespace Cert.ScanProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Pipeline
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- A family over three, written out. -/
theorem bigSep_fin3 (Φ : Fin 3 → sProp 𝕄) : bigSep Finset.univ Φ = iprop(Φ 0 ∗ Φ 1 ∗ Φ 2) :=
  bigSep_univ_eq_bigSepL [0, 1, 2] (by decide) (by decide) Φ
/-- A family over the chunks, along their list. -/
theorem bigSep_chunks (Φ : Fin 32 → sProp 𝕄) : bigSep Finset.univ Φ = bigSepL chunks Φ :=
  bigSep_univ_eq_bigSepL chunks (by decide) (by decide) Φ

/-- The offset of a whole load or store is zero. -/
theorem hz : (![0, 0] : Fin 2 → Nat) = fun _ => 0 := funext fun a => by fin_cases a <;> rfl

/-- Owned at named contents is owned at some contents. -/
theorem some_intro (c : Dev nD) {sp : Space} {sh : Shape} {e : EltTy} (M : Memref sig .tc sp sh e) (X : sh.Idx → Elt F e) :
    (owns (c : Thread nD τ) M fullShare X : sProp 𝕄) ⊢ some' c M := by
  unfold some'; iintro H; iexists X; iexact H

section Steps

variable (K : Dev nD × Fin 7 → ℕ) (c : Dev nD)

/-- The rows of its table the devices hand to `c`. -/
theorem rows_handed : (bigSep Finset.univ fun d => barPay (F := F) c d) ⊢ bigSep Finset.univ fun j => some' (F := F) (fwd j c) (rowM j) := by
  rw [bigSep_fin3, bigSep_fin3]
  unfold barPay
  iintro ⟨⟨H0, -⟩, ⟨H1, -⟩, ⟨H2, -⟩⟩
  isplitl [H2]; · iexact H2
  isplitl [H1]; · iexact H1
  iexact H0

/-- The handshake. -/
theorem wp_shake {α : Type} {Q : α → sProp 𝕄} {k : PUnit → Body F α} :
    iprop(records m K ∗ levAts L lv ∗ cred (tallyAt (barCell c) () 3) ∗ atPos ER (barCell c) 0 ∅ 0
        ∗ (bigSep Finset.univ fun j : Fin 3 => dutyTok ER (barCell (fwd j c)) 0 j)
        ∗ (bigSep Finset.univ fun j : Fin 3 => some' c (rowM j)) ∗ ∃ W, owes (c : Thread nD τ) (O₀ c) W)
      ⊢ iprop((iprop((∃ W, owes (c : Thread nD τ) (OR0 c) W) ∗ semVal (barCell c) 0
              ∗ bigSep Finset.univ fun j => some' (F := F) (fwd j c) (rowM j))
            -∗ wp frame (wpE (defs₀ (F := F)) 𝒱₀ (c : Thread nD τ) none) Set.univ (k ⟨⟩) Q)
          -∗ wp frame (wpE (defs₀ (F := F)) 𝒱₀ (c : Thread nD τ) none) Set.univ (shake c >>= k) Q) := by
  simp only [shake, Prog.bind_assoc]
  rw [bigSep_fin3, bigSep_fin3]
  iintro ⟨#HR, #Hlev, Hc, Hat, ⟨Ht0, Ht1, Ht2⟩, ⟨Hr0, Hr1, Hr2⟩, HO⟩ Hk
  iapply (wp_sig m K c 0 _ (dev1_eq c) (O₀ c) (OB1 c) rfl) $$ [Ht0 Hr2 HO]
  · isplitr; · iexact HR
    isplitl [Ht0]; · iexact Ht0
    isplitl [Hr2]; · iexact Hr2
    iexact HO
  iintro HO
  iapply (wp_sig m K c 1 _ (dev2_eq c) (OB1 c) (OB2 c) rfl) $$ [Ht1 Hr1 HO]
  · isplitr; · iexact HR
    isplitl [Ht1]; · iexact Ht1
    isplitl [Hr1]; · iexact Hr1
    iexact HO
  iintro HO
  iapply (wp_sig m K c 2 _ (dev3_eq c) (OB2 c) (OR0 c) rfl) $$ [Ht2 Hr0 HO]
  · isplitr; · iexact HR
    isplitl [Ht2]; · iexact Ht2
    isplitl [Hr0]; · iexact Hr0
    iexact HO
  iintro HO
  iapply (wp_barWait m K c) $$ [Hc Hat HO]
  · isplitr; · iexact HR
    isplitr; · iexact Hlev
    isplitl [Hc]; · iexact Hc
    isplitl [Hat]; · iexact Hat
    iexact HO
  iintro ⟨HO, Hat, Hpay⟩
  imod (Rounds.cell_close ER (scanRd m) (Set.mem_univ (K (c, 0))) (fun h => h) (R := 0 + 1) (duties_later m (barCell c))) $$ [Hat] with Hz
  · isplitr; · iapply (inv_bar m K c); iexact HR
    iexact Hat
  iapply Hk
  isplitl [HO]; · iexact HO
  isplitl [Hz]; · iexact Hz
  iapply (rows_handed c); iexact Hpay

/-- The total stored. -/
theorem wp_putTotal (t : FVec F S1x1024 .f32) {α : Type} {Q : α → sProp 𝕄} {k : PUnit → Body F α} :
    some' c totM
      ⊢ iprop((owns (c : Thread nD τ) totM fullShare (shapeCast S1x1024 t Facts₀.shapeCasts_S1x1024_S1x1024)
            -∗ wp frame (wpE (defs₀ (F := F)) 𝒱₀ (c : Thread nD τ) none) Set.univ (k ⟨⟩) Q)
          -∗ wp frame (wpE (defs₀ (F := F)) 𝒱₀ (c : Thread nD τ) none) Set.univ (putTotal t >>= k) Q) := by
  simp only [putTotal, Prog.lift, Prog.bind_op, Prog.bind_ret]
  unfold some'
  iintro ⟨%X, H⟩ Hk
  ihave H := (Entails.of_eq (owns_whole (c : Thread nD τ) cc0_scratch1 fullShare X)) $$ H
  iapply (wp_load 𝒱₀ (c : Thread nD τ) none Set.univ (m := totM) (Finset.subset_univ _)) $$ H; iintro H
  iapply (wp_store 𝒱₀ (c : Thread nD τ) none Set.univ (m := totM)
    (r := Rect.unit (s := S1x1024) ![0, 0] S1x1024.size Facts₀.inb_S1x1024_S1x1024_0_0) (Mk := Finset.univ) (Finset.subset_univ _)) $$ H; iintro H
  iapply Hk
  iapply (Entails.of_eq (owns_whole (c : Thread nD τ) cc0_scratch1 fullShare _).symm)
  have e := Memref.write_access_unit_zero_univ (Elt F) cc0_scratch1 hz Facts₀.inb_S1x1024_S1x1024_0_0 X
    (shapeCast S1x1024 t Facts₀.shapeCasts_S1x1024_S1x1024)
  ihave H := (Entails.of_eq (congrArg (fun f : Buf (Elt F) ((c : Thread nD τ).loc cc0_scratch1) => (((c : Thread nD τ).loc cc0_scratch1) ↦{fullShare} f : sProp 𝕄)) e)) $$ H
  iexact H

/-- The table read. -/
theorem wp_loadAll (X : FVec F S3x1024 .f32) {α : Type} {Q : α → sProp 𝕄} {k : Vec F S3x1024 .f32 → Body F α} :
    owns (c : Thread nD τ) (Memref.whole cc0_scratch2) fullShare X
      ⊢ iprop((owns (c : Thread nD τ) (Memref.whole cc0_scratch2) fullShare X
            -∗ wp frame (wpE (defs₀ (F := F)) 𝒱₀ (c : Thread nD τ) none) Set.univ (k X) Q)
          -∗ wp frame (wpE (defs₀ (F := F)) 𝒱₀ (c : Thread nD τ) none) Set.univ (loadAll >>= k) Q) := by
  simp only [loadAll, Prog.lift, Prog.bind_op, Prog.bind_ret]
  iintro H Hk
  ihave H := (Entails.of_eq (owns_whole (c : Thread nD τ) cc0_scratch2 fullShare X)) $$ H
  iapply (wp_load 𝒱₀ (c : Thread nD τ) none Set.univ (m := Memref.whole cc0_scratch2) (Finset.subset_univ _)) $$ H; iintro H
  have e : (Memref.whole cc0_scratch2 : Memref sig .tc .vmem S3x1024 .f32).view.readAt (Elt F)
      (Rect.unit (s := S3x1024) ![0, 0] S3x1024.size Facts₀.inb_S3x1024_S3x1024_0_0).toLoadRect X = X :=
    Memref.readAt_unit_zero (Elt F) cc0_scratch2 hz Facts₀.inb_S3x1024_S3x1024_0_0 X
  rw [e]
  iapply Hk
  iapply (Entails.of_eq (owns_whole (c : Thread nD τ) cc0_scratch2 fullShare _).symm)
  iexact H

/-- The total lent out to the transfers, and taken back. -/
theorem total_lend (X : S1x1024.Idx → Elt F .f32) : (owns (c : Thread nD τ) totM fullShare X : sProp 𝕄)
    ⊢ iprop(owns (c : Thread nD τ) totM (shareDrop fullShare 3) X ∗ bigSep Finset.univ fun j : Fin 3 => owns (c : Thread nD τ) totM (lent j) X) := by
  rw [owns_whole, owns_whole, bigSep_congr fun j _ => owns_whole (c : Thread nD τ) cc0_scratch1 (lent j) X]
  exact pointsTo_toks_split fullShare 3
/-- The total taken back whole. -/
theorem total_back (X : S1x1024.Idx → Elt F .f32) :
    (iprop(owns (c : Thread nD τ) totM (shareDrop fullShare 3) X ∗ bigSep Finset.univ fun j : Fin 3 => owns (c : Thread nD τ) totM (lent j) X) : sProp 𝕄)
      ⊢ owns (c : Thread nD τ) totM fullShare X := by
  rw [owns_whole, owns_whole, bigSep_congr fun j _ => owns_whole (c : Thread nD τ) cc0_scratch1 (lent j) X]
  exact pointsTo_toks_join fullShare 3

/-- The table split into its rows, and put together from the totals that came. -/
theorem table_split : some' c (Memref.whole cc0_scratch2) ⊢ bigSep Finset.univ fun j : Fin 3 => some' (F := F) c (rowM j) := by
  have h (X : S3x1024.Idx → Elt F .f32) : (bigSep Finset.univ fun j : Fin 3 => owns (c : Thread nD τ) (rowM j) fullShare (fun i => X ((rowR j).emb i)))
      ⊢ (bigSep Finset.univ fun j : Fin 3 => some' (F := F) c (rowM j) : sProp 𝕄) := bigSep_mono fun j _ => some_intro c (rowM j) _
  unfold some' at h ⊢
  iintro ⟨%X, H⟩
  ihave H := (owns_rects (c : Thread nD τ) (Memref.whole cc0_scratch2) fullShare rowR (fun _ _ => rfl) row_disjoint row_cover X) $$ H
  iapply (h X); iexact H
/-- The rows of one table put together. -/
theorem table_whole (X : S3x1024.Idx → Elt F .f32) : (bigSep Finset.univ fun j : Fin 3 => owns (c : Thread nD τ) (rowM j) fullShare (fun i => X ((rowR j).emb i)) : sProp 𝕄)
    ⊢ owns (c : Thread nD τ) (Memref.whole cc0_scratch2) fullShare X :=
  owns_of_rects (c : Thread nD τ) (Memref.whole cc0_scratch2) fullShare rowR (fun _ _ => rfl) row_disjoint row_cover X
/-- The table put together from the totals that came. -/
theorem table_join : (bigSep Finset.univ fun j : Fin 3 => recvPay m c j)
    ⊢ owns (c : Thread nD τ) (Memref.whole cc0_scratch2) fullShare (peers m c) := by
  have e : (fun j : Fin 3 => recvPay m c j)
      = fun j => owns (c : Thread nD τ) (rowM j) fullShare (fun i => peers m c ((rowR j).emb i)) :=
    funext fun j => congrArg (fun X : S1x1024.Idx → Elt F .f32 => (owns (c : Thread nD τ) (rowM j) fullShare X : sProp 𝕄)) (peers_emb m c j).symm
  rw [e]
  exact table_whole c (peers m c)

/-- The exchange of the totals. -/
theorem wp_exchange {α : Type} {Q : α → sProp 𝕄} {k : PUnit → Body F α} :
    iprop(records m K ∗ owns (c : Thread nD τ) totM fullShare (total m c)
        ∗ (bigSep Finset.univ fun j : Fin 3 => some' (F := F) (fwd j c) (rowM j))
        ∗ (bigSep Finset.univ fun j : Fin 3 => dutyTok ER (sendCell j c) 0 0)
        ∗ (bigSep Finset.univ fun j : Fin 3 => dutyTok ER (recvCell j (fwd j c)) 0 0)
        ∗ (bigSep Finset.univ fun j : Fin 3 => atPos ER (sendCell j c) 0 ∅ 0)
        ∗ (bigSep Finset.univ fun j : Fin 3 => atPos ER (recvCell j c) 0 ∅ 0)
        ∗ (bigSep Finset.univ fun j : Fin 3 => cred (tallyAt (recvCell j c) () NR))
        ∗ ∃ W, owes (c : Thread nD τ) (OR0 c) W)
      ⊢ iprop((iprop(owns (c : Thread nD τ) totM fullShare (total m c) ∗ owns (c : Thread nD τ) (Memref.whole cc0_scratch2) fullShare (peers m c)
              ∗ (bigSep Finset.univ fun j : Fin 3 => semVal (sendCell j c) 0) ∗ (bigSep Finset.univ fun j : Fin 3 => semVal (recvCell j c) 0)
              ∗ ∃ W, owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ (exchange c >>= k) Q) := by
  simp only [exchange, Prog.bind_assoc]
  iintro ⟨#HR, Htot, Hrows, HtS, HtR, HaS, HaR, HcR, HO⟩ Hk
  ihave Hl := (total_lend c (total m c)) $$ Htot
  icases Hl with ⟨Hd, Hl⟩
  ihave Hl := (Entails.of_eq (bigSep_fin3 _)) $$ Hl
  ihave Hrows := (Entails.of_eq (bigSep_fin3 _)) $$ Hrows
  ihave HtS := (Entails.of_eq (bigSep_fin3 _)) $$ HtS
  ihave HtR := (Entails.of_eq (bigSep_fin3 _)) $$ HtR
  ihave HaS := (Entails.of_eq (bigSep_fin3 _)) $$ HaS
  ihave HaR := (Entails.of_eq (bigSep_fin3 _)) $$ HaR
  ihave HcR := (Entails.of_eq (bigSep_fin3 _)) $$ HcR
  icases Hl with ⟨Hl0, Hl1, Hl2⟩
  icases Hrows with ⟨Hr0, Hr1, Hr2⟩
  icases HtS with ⟨Hs0, Hs1, Hs2⟩
  icases HtR with ⟨Ht0, Ht1, Ht2⟩
  icases HaS with ⟨Ha0, Ha1, Ha2⟩
  icases HaR with ⟨Hb0, Hb1, Hb2⟩
  icases HcR with ⟨Hc0, Hc1, Hc2⟩
  iapply (wp_sendTo m K c 0 _ (dev4_eq c) (OR0 c) (OR1 c) rfl) $$ [Hl0 Hr0 Hs0 Ht0 HO]
  · isplitr; · iexact HR
    isplitl [Hl0]; · iexact Hl0
    isplitl [Hr0]; · iexact Hr0
    isplitl [Hs0]; · iexact Hs0
    isplitl [Ht0]; · iexact Ht0
    iexact HO
  iintro ⟨Hd0, HO⟩
  iapply (wp_sendTo m K c 1 _ (dev5_eq c) (OR1 c) (OR2 c) rfl) $$ [Hl1 Hr1 Hs1 Ht1 HO]
  · isplitr; · iexact HR
    isplitl [Hl1]; · iexact Hl1
    isplitl [Hr1]; · iexact Hr1
    isplitl [Hs1]; · iexact Hs1
    isplitl [Ht1]; · iexact Ht1
    iexact HO
  iintro ⟨Hd1, HO⟩
  iapply (wp_sendTo m K c 2 _ (dev6_eq c) (OR2 c) 0 rfl) $$ [Hl2 Hr2 Hs2 Ht2 HO]
  · isplitr; · iexact HR
    isplitl [Hl2]; · iexact Hl2
    isplitl [Hr2]; · iexact Hr2
    isplitl [Hs2]; · iexact Hs2
    isplitl [Ht2]; · iexact Ht2
    iexact HO
  iintro ⟨Hd2, HO⟩
  iapply (wp_waitSent m K c 0) $$ [Hd0 Ha0 HO]
  · isplitr; · iexact HR
    isplitl [Hd0]; · iexact Hd0
    isplitl [Ha0] <;> iassumption
  iintro ⟨Hl0, Hs0, HO⟩
  iapply (wp_waitSent m K c 1) $$ [Hd1 Ha1 HO]
  · isplitr; · iexact HR
    isplitl [Hd1]; · iexact Hd1
    isplitl [Ha1] <;> iassumption
  iintro ⟨Hl1, Hs1, HO⟩
  iapply (wp_waitSent m K c 2) $$ [Hd2 Ha2 HO]
  · isplitr; · iexact HR
    isplitl [Hd2]; · iexact Hd2
    isplitl [Ha2] <;> iassumption
  iintro ⟨Hl2, Hs2, HO⟩
  iapply (wp_waitRecv m K c 0) $$ [Hc0 Hb0 HO]
  · isplitr; · iexact HR
    isplitl [Hc0]; · iexact Hc0
    isplitl [Hb0] <;> iassumption
  iintro ⟨Hr0, Ht0, HO⟩
  iapply (wp_waitRecv m K c 1) $$ [Hc1 Hb1 HO]
  · isplitr; · iexact HR
    isplitl [Hc1]; · iexact Hc1
    isplitl [Hb1] <;> iassumption
  iintro ⟨Hr1, Ht1, HO⟩
  iapply (wp_waitRecv m K c 2) $$ [Hc2 Hb2 HO]
  · isplitr; · iexact HR
    isplitl [Hc2]; · iexact Hc2
    isplitl [Hb2] <;> iassumption
  iintro ⟨Hr2, Ht2, HO⟩
  iapply Hk
  isplitl [Hd Hl0 Hl1 Hl2]
  · iapply (total_back c (total m c))
    isplitl [Hd]; · iexact Hd
    iapply (Entails.of_eq (bigSep_fin3 _).symm)
    unfold sendPay
    isplitl [Hl0]; · iexact Hl0
    isplitl [Hl1] <;> iassumption
  isplitl [Hr0 Hr1 Hr2]
  · iapply (table_join m c)
    iapply (Entails.of_eq (bigSep_fin3 _).symm)
    isplitl [Hr0]; · iexact Hr0
    isplitl [Hr1] <;> iassumption
  isplitl [Hs0 Hs1 Hs2]
  · iapply (Entails.of_eq (bigSep_fin3 _).symm)
    isplitl [Hs0]; · iexact Hs0
    isplitl [Hs1] <;> iassumption
  isplitl [Ht0 Ht1 Ht2]
  · iapply (Entails.of_eq (bigSep_fin3 _).symm)
    isplitl [Ht0]; · iexact Ht0
    isplitl [Ht1] <;> iassumption
  iexact HO

/-! ## The chunks of the buffers -/

/-- The work buffer split into chunks. -/
theorem work_split : some' c (Memref.whole cc0_scratch0) ⊢ bigSep Finset.univ fun k : Fin 32 => some' (F := F) c (wC k) := by
  have h (X : S8192x1024.Idx → Elt F .f32) : (bigSep Finset.univ fun k : Fin 32 => owns (c : Thread nD τ) (wC k) fullShare (fun i => X ((chunk k).emb i)))
      ⊢ (bigSep Finset.univ fun k : Fin 32 => some' (F := F) c (wC k) : sProp 𝕄) := bigSep_mono fun k _ => some_intro c (wC k) _
  unfold some' at h ⊢
  iintro ⟨%X, H⟩
  ihave H := (owns_rects (c : Thread nD τ) (Memref.whole cc0_scratch0) fullShare chunk (fun _ _ => rfl) chunk_disjoint chunk_cover X) $$ H
  iapply (h X); iexact H
/-- The result's buffer split into chunks. -/
theorem out_split : some' c (Memref.whole main_v1) ⊢ bigSep Finset.univ fun k : Fin 32 => some' (F := F) c (oC k) := by
  have h (X : S8192x1024.Idx → Elt F .f32) : (bigSep Finset.univ fun k : Fin 32 => owns (c : Thread nD τ) (oC k) fullShare (fun i => X ((chunk k).emb i)))
      ⊢ (bigSep Finset.univ fun k : Fin 32 => some' (F := F) c (oC k) : sProp 𝕄) := bigSep_mono fun k _ => some_intro c (oC k) _
  unfold some' at h ⊢
  iintro ⟨%X, H⟩
  ihave H := (owns_rects (c : Thread nD τ) (Memref.whole main_v1) fullShare chunk (fun _ _ => rfl) chunk_disjoint chunk_cover X) $$ H
  iapply (h X); iexact H

/-- The input and the work buffer split into chunks whose copies in are ready to start. -/
theorem in_ready : iprop(owns (c : Thread nD τ) (Memref.whole main_arg0) fullShare (xIn m c) ∗ some' c (Memref.whole cc0_scratch0)
      ∗ bigSep Finset.univ fun k : Fin 32 => semVal ((c : Thread nD τ), .dma (inS k)) 0)
    ⊢ bigSepL chunks (inReady m c) := by
  iintro ⟨Hx, Hw, Hs⟩
  ihave Hx := (owns_rects (c : Thread nD τ) (Memref.whole main_arg0) fullShare chunk (fun _ _ => rfl) chunk_disjoint chunk_cover (xIn m c)) $$ Hx
  ihave Hw := (work_split c) $$ Hw
  iapply (Entails.of_eq (bigSep_chunks _))
  unfold inReady
  iapply (Entails.of_eq (by rw [bigSep_sep', bigSep_sep']))
  isplitl [Hx]; · iexact Hx
  isplitl [Hw]; · iexact Hw
  iexact Hs

/-- After the copies in, the input whole again and the chunks ready to be copied out. -/
theorem out_ready : iprop(bigSepL chunks (inDone m c) ∗ some' c (Memref.whole main_v1)
      ∗ bigSep Finset.univ fun k : Fin 32 => semVal ((c : Thread nD τ), .dma (outS k)) 0)
    ⊢ iprop(bigSepL chunks (outReady m c) ∗ owns (c : Thread nD τ) (Memref.whole main_arg0) fullShare (xIn m c)
      ∗ bigSep Finset.univ fun k : Fin 32 => semVal ((c : Thread nD τ), .dma (inS k)) 0) := by
  iintro ⟨Hin, Ho, Hs⟩
  ihave Hin := (Entails.of_eq (bigSep_chunks (inDone m c)).symm) $$ Hin
  unfold inDone
  ihave Hin := (Entails.of_eq (by rw [bigSep_sep', bigSep_sep'])) $$ Hin
  icases Hin with ⟨Hw, Hx, Hi⟩
  ihave Ho := (out_split c) $$ Ho
  isplitl [Hw Ho Hs]
  · iapply (Entails.of_eq (bigSep_chunks _))
    unfold outReady
    iapply (Entails.of_eq (by rw [bigSep_sep', bigSep_sep']))
    isplitl [Hw]; · iexact Hw
    isplitl [Ho]; · iexact Ho
    iexact Hs
  isplitl [Hx]
  · iapply (owns_of_rects (c : Thread nD τ) (Memref.whole main_arg0) fullShare chunk (fun _ _ => rfl) chunk_disjoint chunk_cover (xIn m c)); iexact Hx
  iexact Hi

/-- After the copies out, the result whole at its contents. -/
theorem out_done : bigSepL chunks (outDone c (resBlk m c))
    ⊢ iprop(owns (c : Thread nD τ) (Memref.whole main_v1) fullShare (outFull m c) ∗ some' c (Memref.whole cc0_scratch0)
      ∗ bigSep Finset.univ fun k : Fin 32 => semVal ((c : Thread nD τ), .dma (outS k)) 0) := by
  unfold outDone
  simp only [← outFull_emb]
  iintro H
  ihave H := (Entails.of_eq (bigSep_chunks _).symm) $$ H
  ihave H := (Entails.of_eq (by rw [bigSep_sep', bigSep_sep'])) $$ H
  icases H with ⟨⟨Ho, Hw⟩, Hs⟩
  isplitl [Ho]
  · iapply (owns_of_rects (c : Thread nD τ) (Memref.whole main_v1) fullShare chunk (fun _ _ => rfl) chunk_disjoint chunk_cover (outFull m c))
    iexact Ho
  isplitl [Hw]
  · unfold some'
    iexists (outFull m c)
    iapply (owns_of_rects (c : Thread nD τ) (Memref.whole cc0_scratch0) fullShare chunk (fun _ _ => rfl) chunk_disjoint chunk_cover (outFull m c))
    iexact Hw
  iexact Hs

/-- What the running sums come to over all the chunks. -/
theorem sums_chunks : sums m c chunks k0_pay1 = (chunks.map fun k => (k, runs m c k.val), runs m c 32) := rfl

end Steps

/-! ## What a device starts from and ends with -/

/-- What is a device's own of the protocol: its positions at its cells, and the tokens of the duties it pays. -/
def linear (c : Dev nD) : sProp 𝕄 :=
  iprop(atPos ER (barCell c) 0 ∅ 0
    ∗ (bigSep Finset.univ fun j : Fin 3 => atPos ER (sendCell j c) 0 ∅ 0) ∗ (bigSep Finset.univ fun j : Fin 3 => atPos ER (recvCell j c) 0 ∅ 0)
    ∗ (bigSep Finset.univ fun j : Fin 3 => dutyTok ER (barCell (fwd j c)) 0 j)
    ∗ (bigSep Finset.univ fun j : Fin 3 => dutyTok ER (sendCell j c) 0 0)
    ∗ (bigSep Finset.univ fun j : Fin 3 => dutyTok ER (recvCell j (fwd j c)) 0 0))

/-- The counters of the local copies at zero. -/
def copies (c : Dev nD) : sProp 𝕄 :=
  iprop((bigSep Finset.univ fun k : Fin 32 => semVal ((c : Thread nD τ), .dma (inS k)) 0)
    ∗ bigSep Finset.univ fun k : Fin 32 => semVal ((c : Thread nD τ), .dma (outS k)) 0)

/-- What a device gets from the launch: the cells' records, its positions and tokens, its copies' counters. -/
def G' (c : Dev nD) : sProp 𝕄 := iprop((∃ K, records m K) ∗ linear c ∗ copies c)

/-- What a device starts from, its scratch buffers apart. -/
def start (c : Dev nD) : sProp 𝕄 :=
  iprop(G' m c ∗ levAts L lv ∗ cred (tallyAt (barCell c) () 3) ∗ (bigSep Finset.univ fun j : Fin 3 => cred (tallyAt (recvCell j c) () NR))
    ∗ owns (c : Thread nD τ) (Memref.whole main_arg0) fullShare (xIn m c) ∗ some' c (Memref.whole main_v1))

/-- The scratch buffers, at contents not named. -/
def scratch (c : Dev nD) : sProp 𝕄 :=
  iprop(some' c (Memref.whole cc0_scratch0) ∗ some' c (Memref.whole cc0_scratch1) ∗ some' c (Memref.whole cc0_scratch2))

/-- What the body starts from. -/
def Φ₀ (c : Dev nD) : sProp 𝕄 := iprop(start m c ∗ scratch c)

/-- What a device ends with, its scratch buffers apart: the input unchanged, the result computed, the barrier at zero. -/
def finish (c : Dev nD) : sProp 𝕄 :=
  iprop(owns (c : Thread nD τ) (Memref.whole main_arg0) fullShare (xIn m c) ∗ owns (c : Thread nD τ) (Memref.whole main_v1) fullShare (outFull m c)
    ∗ semVal (barCell c) 0)

/-- What the body ends with. -/
def Φ₁ (c : Dev nD) : sProp 𝕄 :=
  iprop(finish m c ∗ (copies c ∗ (bigSep Finset.univ fun j : Fin 3 => semVal (sendCell j c) 0) ∗ (bigSep Finset.univ fun j : Fin 3 => semVal (recvCell j c) 0))
    ∗ scratch c)

/-- The body, from what the device starts from to what it ends with. -/
theorem sound_body (c : Dev nD) :
    iprop(Φ₀ m c ∗ ∃ W, owes (c : Thread nD τ) (O₀ c) W)
      ⊢ wp frame (wpE (defs₀ (F := F)) 𝒱₀ (c : Thread nD τ) none) Set.univ scanBody
          (fun _ => iprop(Φ₁ m c ∗ ∃ W, owes (c : Thread nD τ) 0 W)) := by
  have hd : (drain chunks : Body F PUnit) = drain chunks >>= pure := (Prog.bind_pure _).symm
  unfold scanBody
  rw [hd]
  simp only [Prog.lift, Prog.bind_op, Prog.bind_ret, wp_deviceId]
  unfold Φ₀ start G' linear copies scratch
  iintro ⟨⟨⟨⟨⟨%K, #HR⟩, ⟨HaB, HaS, HaR, HtB, HtS, HtR⟩, Hin, Hout⟩, #Hlev, HcB, HcR, Hx, Hy⟩, Hw, Ht, Hp⟩, HO⟩
  ihave Hi := (in_ready m c) $$ [Hx Hw Hin]
  · isplitl [Hx]; · iexact Hx
    isplitl [Hw] <;> iassumption
  iapply (wp_startIn m c chunks) $$ Hi
  iintro Hi
  ihave Hrows := (table_split c) $$ Hp
  iapply (wp_shake m K c) $$ [HcB HaB HtB Hrows HO]
  · isplitr; · iexact HR
    isplitr; · iexact Hlev
    isplitl [HcB]; · iexact HcB
    isplitl [HaB]; · iexact HaB
    isplitl [HtB]; · iexact HtB
    isplitl [Hrows] <;> iassumption
  iintro ⟨HO, HzB, Hrows⟩
  iapply (wp_accum m c (OR0 c) (P := levAts L lv) (fun k => mayWait_in c k) chunks k0_pay1) $$ [Hi HO]
  · isplitr; · iexact Hlev
    isplitl [Hi] <;> iassumption
  iintro ⟨Hi, HO⟩
  rw [sums_chunks]
  iapply (wp_putTotal c (runs m c 32)) $$ Ht
  iintro Ht
  iapply (wp_exchange m K c) $$ [Ht Hrows HtS HtR HaS HaR HcR HO]
  · isplitr; · iexact HR
    isplitl [Ht]; · iexact Ht
    isplitl [Hrows]; · iexact Hrows
    isplitl [HtS]; · iexact HtS
    isplitl [HtR]; · iexact HtR
    isplitl [HaS]; · iexact HaS
    isplitl [HaR]; · iexact HaR
    isplitl [HcR] <;> iassumption
  iintro ⟨Ht, Hp, HzS, HzR, HO⟩
  iapply (wp_loadAll c (peers m c)) $$ Hp
  iintro Hp
  ihave Ho := (out_ready m c) $$ [Hi Hy Hout]
  · isplitl [Hi]; · iexact Hi
    isplitl [Hy] <;> iassumption
  icases Ho with ⟨Ho, Hx, Hin⟩
  iapply (wp_emit m c (offs m c) (resBlk m c) (chunks.map fun k => (k, runs m c k.val)) (fun kp hkp => by
    obtain ⟨k, -, rfl⟩ := List.mem_map.mp hkp; rfl)) $$ [Ho]
  · rw [bigSepL_map]; iexact Ho
  iintro Ho
  ihave Ho := (Entails.of_eq (bigSepL_map _ _ _)) $$ Ho
  iapply (wp_drain c (resBlk m c) chunks) $$ [Ho HO]
  · isplitl [Ho] <;> iassumption
  iintro ⟨Ho, HO⟩
  ihave Ho := (out_done m c) $$ Ho
  icases Ho with ⟨Hy, Hw, Hout⟩
  rw [Prog.pure_eq_ret, wp_ret]; imodintro
  unfold Φ₁ finish copies scratch some'
  isplitr [HO]
  · isplitl [Hx Hy HzB]
    · isplitl [Hx]; · iexact Hx
      isplitl [Hy] <;> iassumption
    isplitl [Hin Hout HzS HzR]
    · isplitl [Hin Hout]
      · isplitl [Hin] <;> iassumption
      isplitl [HzS] <;> iassumption
    isplitl [Hw]; · iexact Hw
    isplitl [Ht]; · iexists _; iexact Ht
    iexists _; iexact Hp
  iexact HO

/-- The launch of the one grid point: what is held and owed before and after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.ScanProof

end
-- ==== Proof.Launch.lean ====
module

public import proofs.«01_k».proof.Proof.Body
public import proofs.«01_k».proof.Proof.Gen.KernelIdeal.Frame
public import Idealize.ShloMosaic.Lib.Pipeline.CollectiveSegs

/-!
# The run of the kernel

The launch gives every device what its body starts from, and the run ends with every device's result in place, its input
unchanged and every semaphore at zero.
-/

@[expose] public section

noncomputable section

namespace Cert.ScanProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Pipeline
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The pipeline's one grid point runs the kernel's body. -/
theorem body_at : defs₀ (F := F) .tc cfg0.body (cfg0.bodyArgs t0_0 (cfg0.slots t0_0)) = scanBody :=
  (show _ = bodyAt0 (F := F) t0_0 from rfl).trans (body_eq t0_0)

/-- Before the grid point the pipeline holds what the body starts from. -/
theorem dats_pre (c : Dev nD) : (dats m 0 c).Φ (t0_0 : Fin cfg0.N).castSucc = Φ₀ m c := rfl

/-- After the grid point the pipeline holds what the body leaves. -/
theorem dats_post (c : Dev nD) : (dats m 0 c).Φ (t0_0 : Fin cfg0.N).succ = Φ₁ m c := rfl

/-- Before the grid point a device owes all its signals and copies. -/
theorem dats_owed_pre (c : Dev nD) : (dats m 0 c).owed (t0_0 : Fin cfg0.N).castSucc = O₀ c := rfl

/-- After the grid point a device owes nothing. -/
theorem dats_owed_post (c : Dev nD) : (dats m 0 c).owed (t0_0 : Fin cfg0.N).succ = 0 := rfl

/-- What the pipeline hands over holds what the body starts from. -/
theorem body_pre (c : Dev nD) (B : Set (SemLoc sig × Unit)) :
    (iprop(Φ₀ m c ∗ Pipeline.owesWithin c (O₀ c) B ∗ emp) : sProp 𝕄)
      ⊢ iprop(Φ₀ m c ∗ ∃ W, owes (c : Thread nD τ) (O₀ c) W) := by
  unfold Pipeline.owesWithin
  iintro ⟨H, ⟨%W, -, HO⟩, -⟩
  isplitl [H]; · iexact H
  iexists W; iexact HO

/-- What the body leaves holds what the pipeline asks back. -/
theorem body_post (c : Dev nD) (B : Set (SemLoc sig × Unit)) (hB : ∀ p, p ∈ B) :
    (iprop(Φ₁ m c ∗ ∃ W, owes (c : Thread nD τ) 0 W) : sProp 𝕄)
      ⊢ iprop(Φ₁ m c ∗ Pipeline.owesWithin c 0 B ∗ emp) := by
  unfold Pipeline.owesWithin
  iintro ⟨H, ⟨%W, HO⟩⟩
  isplitl [H]; · iexact H
  isplitl [HO]
  · iexists W
    isplitr; · ipureintro; exact fun p _ => hB p
    iexact HO
  iempintro

/-- A body's postcondition may be weakened. -/
theorem weaken_post {c : Dev nD} {p : Body F PUnit} {P : sProp 𝕄} {Q Q' : PUnit → sProp 𝕄}
    (h : P ⊢ wp frame (wpE (defs₀ (F := F)) 𝒱₀ (c : Thread nD τ) none) Set.univ p Q) (hQ : ∀ a, Q a ⊢ Q' a) :
    P ⊢ wp frame (wpE (defs₀ (F := F)) 𝒱₀ (c : Thread nD τ) none) Set.univ p Q' :=
  h.trans (wp_mono _ _ _ hQ)

/-- The body obligation of the launch. -/
theorem body_obligation (c : Dev nD) : BodyObligation (dats (F := F) m 0 c) (defs₀ (F := F)) 𝒱₀ () Set.univ := fun t => by
  rewrite [fin_N0 t]
  have hw (Ψ : Fin cfg0.W → sProp 𝕄) : bigSep Finset.univ Ψ = iprop(emp) := bigSep_empty
  rewrite [hw, hw, body_at, dats_pre, dats_post]
  unfold Dat.owesAt
  rewrite [dats_owed_pre, dats_owed_post]
  have h2 := (body_pre m c ((dats m 0 c).bound () (t0_0 : Fin cfg0.N).castSucc)).trans (sound_body m c)
  have h3 := fun _ : PUnit.{1} => body_post m c ((dats m 0 c).bound () (t0_0 : Fin cfg0.N).succ) fun _ => Or.inl trivial
  have h4 := weaken_post h2 h3
  with_reducible exact h4

/-! ## The cells, and the tokens -/

/-- The semaphores of the kernel: the copies' in and out, the sends', the receives'. -/
abbrev SemIx : Type := (Fin 32 ⊕ Fin 32) ⊕ (Fin 3 ⊕ Fin 3)
/-- The semaphore at an index. -/
abbrev osem : SemIx → SemLoc sig
  | .inl (.inl k) => .dma (inS k)
  | .inl (.inr k) => .dma (outS k)
  | .inr (.inl j) => .dma (sendS j)
  | .inr (.inr j) => .dma (recvS j)

/-- The kernel's own semaphores are scoped and distinct. -/
theorem ownSemFacts : Pipeline.OwnSemFacts cfg0.spec osem where
  isScoped := by decide +kernel
  inj := by decide +kernel
  disj := fun _ w => w.elim0

/-- The seven semaphores of the protocol are distinct. -/
theorem csem_injective : Function.Injective csem := by decide +kernel
/-- The protocol's cells are distinct. -/
theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- The protocol's cells, of all devices. -/
def scanCells : Finset (GSem nD τ sig) := Finset.univ.map ⟨kcell, kcell_injective⟩

/-- The duties of a device's cells: three of its barrier cell, one of each send and receive cell. -/
abbrev DutyIx : Type := Fin 3 ⊕ (Fin 3 ⊕ Fin 3)
/-- The semaphore and the number of a duty. -/
abbrev dutyOf : DutyIx → SemLoc sig × Fin 3
  | .inl j => (.reg barS, j)
  | .inr (.inl j) => (.dma (sendS j), 0)
  | .inr (.inr j) => (.dma (recvS j), 0)
/-- The duties are distinct. -/
theorem dutyOf_injective : Function.Injective dutyOf := by decide +kernel
/-- The token of a device's duty. -/
abbrev tokOf (cd : Dev nD × DutyIx) : GSem nD τ sig × ℕ × Fin 3 := (((cd.1 : Thread nD τ), (dutyOf cd.2).1), 0, (dutyOf cd.2).2)
/-- The tokens are distinct. -/
theorem tokOf_injective : Function.Injective (tokOf : Dev nD × DutyIx → GSem nD τ sig × ℕ × Fin 3) := by
  rintro ⟨c, d⟩ ⟨c', d'⟩ h
  have h1 : c = c' := congrArg (fun x : GSem nD τ sig × ℕ × Fin 3 => x.1.1.1) h
  have h2 : d = d' := dutyOf_injective (congrArg (fun x : GSem nD τ sig × ℕ × Fin 3 => (x.1.2, x.2.2)) h)
  rw [h1, h2]
/-- All the tokens. -/
def scanToks : Finset (GSem nD τ sig × ℕ × Fin 3) := Finset.univ.map ⟨tokOf, tokOf_injective⟩

/-- The resources that the launch begins with. -/
def u₀ : UU := (initOf (Pipeline.cells cfgs cellOf_inj) (Pipeline.launchToks cfgs cellOf_inj), (initOf scanCells scanToks, (1 : Counters)))

/-- The tokens of the duties of a device's own cells. -/
def toks (c : Dev nD) : sProp 𝕄 :=
  iprop((bigSep Finset.univ fun j : Fin 3 => dutyTok ER (barCell c) 0 j)
    ∗ (bigSep Finset.univ fun j : Fin 3 => dutyTok ER (sendCell j c) 0 0) ∗ (bigSep Finset.univ fun j : Fin 3 => dutyTok ER (recvCell j c) 0 0))

/-- What each device is dealt at first: its cells' states, positions and records, its own cells' tokens. -/
def G (c : Dev nD) : sProp 𝕄 :=
  iprop((bigSep Finset.univ fun k : Fin 7 => roundState ER (scanRd m) (kcell (c, k)) 0)
    ∗ ((bigSep Finset.univ fun k : Fin 7 => atPos ER (kcell (c, k)) 0 ∅ 0) ∗ (bigSep Finset.univ fun k : Fin 7 => reached ER (kcell (c, k)) 0)) ∗ toks c)

/-- The protocol's resources give every device what it is dealt. -/
theorem fund_scan : BI.own (ER (initOf scanCells scanToks)) ⊢ (|==> bigSep Finset.univ (G m) : sProp 𝕄) := by
  have hX (Φ : GSem nD τ sig → sProp 𝕄) : bigSep scanCells Φ = bigSep Finset.univ fun c : Dev nD => bigSep Finset.univ fun k : Fin 7 => Φ (kcell (c, k)) := by
    unfold scanCells; rw [bigSep_map, bigSep_univ_prod]; rfl
  have hT : bigSep scanToks (fun x => (dutyTok ER x.1 x.2.1 x.2.2 : sProp 𝕄)) = bigSep Finset.univ fun c : Dev nD => toks c := by
    unfold scanToks; rw [bigSep_map, bigSep_univ_prod]
    exact bigSep_congr fun c _ => by rw [bigSep_univ_sum, bigSep_univ_sum]; rfl
  iintro HX
  imod (Rounds.fund ER (scanRd m) scanCells scanToks) $$ HX with ⟨Hst, Hr, Hat, Htok⟩
  imodintro
  ihave Hst' := (Entails.of_eq (hX fun g => roundState ER (scanRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The counters the kernel's semaphores are at, sorted. -/
theorem ownSems0_eq (c : Dev nD) : (Pipeline.ownSems0 (Ix := Unit) (Name := ℕ) (U := UU) (Lvl := ℕ) (Val := Elt F) (τ := τ) osem c : sProp 𝕄)
    = iprop(copies c ∗ (bigSep Finset.univ fun j : Fin 3 => semVal (sendCell j c) 0) ∗ (bigSep Finset.univ fun j : Fin 3 => semVal (recvCell j c) 0)) := by
  unfold Pipeline.ownSems0 copies; rw [bigSep_univ_sum, bigSep_univ_sum, bigSep_univ_sum]; rfl
/-- The one semaphore that outlives the call is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over seven, written out. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A family over the protocol's seven cells of a device: the barrier's, the sends', the receives'. -/
theorem bigSep_cells (c : Dev nD) (Φ : GSem nD τ sig → sProp 𝕄) : (bigSep Finset.univ fun k : Fin 7 => Φ (kcell (c, k)))
    ⊣⊢ iprop(Φ (barCell c) ∗ (bigSep Finset.univ fun j : Fin 3 => Φ (sendCell j c)) ∗ (bigSep Finset.univ fun j : Fin 3 => Φ (recvCell j c))) := by
  rw [bigSep_fin7, bigSep_fin3, bigSep_fin3]
  constructor
  · iintro ⟨H0, H1, H2, H3, H4, H5, H6⟩
    isplitl [H0]; · iexact H0
    isplitl [H1 H2 H3]
    · isplitl [H1]; · iexact H1
      isplitl [H2] <;> iassumption
    isplitl [H4]; · iexact H4
    isplitl [H5] <;> iassumption
  · iintro ⟨H0, ⟨H1, H2, H3⟩, H4, H5, H6⟩
    isplitl [H0]; · iexact H0
    isplitl [H1]; · iexact H1
    isplitl [H2]; · iexact H2
    isplitl [H3]; · iexact H3
    isplitl [H4]; · iexact H4
    isplitl [H5] <;> iassumption

/-- What a device holds once its cells' invariants are allocated. -/
def held (c : Dev nD) : sProp 𝕄 :=
  iprop((bigSep Finset.univ fun k => iprop(∃ κ : ℕ, cellInv ER (scanRd m) κ (kcell (c, k))))
    ∗ ((bigSep Finset.univ fun k : Fin 7 => atPos ER (kcell (c, k)) 0 ∅ 0) ∗ (bigSep Finset.univ fun k : Fin 7 => reached ER (kcell (c, k)) 0))
    ∗ toks c ∗ copies c)

/-- One device's counters at zero, and what it was dealt, become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> held m c := by
  unfold G held
  rw [ownSems0_eq, unscopedSems0_eq]
  iintro ⟨⟨Hcp, HS, HV⟩, HB, Hst, Hat, Htok⟩
  ihave Hv := ((bigSep_cells c (fun g => (semVal g 0 : sProp 𝕄))).2) $$ [HS HV HB]
  · isplitl [HB]; · iexact HB
    isplitl [HS] <;> iassumption
  imod (show iprop((bigSep Finset.univ fun k : Fin 7 => semVal (kcell (c, k)) 0) ∗ bigSep Finset.univ fun k : Fin 7 => roundState ER (scanRd m) (kcell (c, k)) 0)
      ⊢ (|={Set.univ}=> bigSep Finset.univ fun k => iprop(∃ κ : ℕ, cellInv ER (scanRd m) κ (kcell (c, k))) : sProp 𝕄) from by
        rw [← bigSep_sep']
        exact (bigSep_mono fun k _ => (Rounds.body_intro ER (scanRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- A family over devices and transfers, every transfer's family turned to the device it goes to. -/
theorem turned (Φ : Fin 3 → Dev nD → sProp 𝕄) : (bigSep Finset.univ fun c : Dev nD => bigSep Finset.univ fun j : Fin 3 => Φ j c)
    = bigSep Finset.univ fun c : Dev nD => bigSep Finset.univ fun j : Fin 3 => Φ j (fwd j c) := by
  rw [BI.bigSep_univ_comm, BI.bigSep_univ_comm (fun (c : Dev nD) (j : Fin 3) => Φ j (fwd j c))]
  exact bigSep_congr fun j _ => bigSep_univ_equiv (turn j) (Φ j)

/-- The tokens dealt to the devices that pay them. -/
theorem deal : iprop((bigSep Finset.univ fun c : Dev nD => bigSep Finset.univ fun k : Fin 7 => (atPos ER (kcell (c, k)) 0 ∅ 0 : sProp 𝕄))
      ∗ bigSep Finset.univ fun c : Dev nD => toks c)
    ⊢ bigSep Finset.univ fun c : Dev nD => linear (F := F) c := by
  unfold toks linear
  rw [bigSep_congr (s := Finset.univ) fun (c : Dev nD) _ => Entails.antisymm (bigSep_cells c (fun g => (atPos ER g 0 ∅ 0 : sProp 𝕄))).1 (bigSep_cells c (fun g => (atPos ER g 0 ∅ 0 : sProp 𝕄))).2]
  simp only [bigSep_sep']
  rw [turned (fun j c => (dutyTok ER (barCell c) 0 j : sProp 𝕄)), turned (fun j c => (dutyTok ER (recvCell j c) 0 0 : sProp 𝕄))]
  iintro ⟨⟨H1, H2, H3⟩, H4, H5, H6⟩
  isplitl [H1]; · iexact H1
  isplitl [H2]; · iexact H2
  isplitl [H3]; · iexact H3
  isplitl [H4]; · iexact H4
  isplitl [H5] <;> iassumption

/-- What may be used again and again is at hand for every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants and records of all devices given to each, the tokens to those who pay them. -/
theorem regroup : bigSep Finset.univ (held m) ⊢ bigSep Finset.univ (G' m) := by
  unfold held
  simp only [bigSep_sep']
  rw [← bigSep_univ_prod (fun ck : Dev nD × Fin 7 => iprop(∃ κ : ℕ, cellInv ER (scanRd m) κ (kcell ck))),
    ← bigSep_univ_prod (fun ck : Dev nD × Fin 7 => (reached ER (kcell ck) 0 : sProp 𝕄))]
  iintro ⟨HI, ⟨Hat, #HR⟩, Htok, Hcp⟩
  ihave HK := (BI.bigSep_exists_pi Finset.univ (fun (ck : Dev nD × Fin 7) (κ : ℕ) => (cellInv ER (scanRd m) κ (kcell ck) : sProp 𝕄))) $$ HI
  icases HK with ⟨%K, #HI⟩
  ihave Hl := (deal (F := F)) $$ [Hat Htok]
  · isplitl [Hat] <;> iassumption
  iapply (with_persistent (R := records m K) (Φ := fun c => iprop(linear c ∗ copies c)) fun c _ => by
    unfold G'
    iintro ⟨#H, Hl⟩
    isplitr; · iexists K; iexact H
    iexact Hl)
  isplitr
  · unfold records; isplitl; · iexact HI
    iexact HR
  · rw [bigSep_sep']
    isplitl [Hl] <;> iassumption

/-- The whole mesh's counters and deals become what each device gets from the launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A device's credit at launch: three units on its barrier cell, a row's credit on each receive cell. -/
theorem creds (c : Dev nD) :
    (Pipeline.launchCred O₀ c : sProp 𝕄) ⊢ iprop(cred (tallyAt (barCell c) () 3) ∗ bigSep Finset.univ fun j : Fin 3 => cred (tallyAt (recvCell j c) () NR)) := by
  have hb (j : Fin 3) : (Pipeline.launchCred (fun d => tallyAt (barCell (fwd j d)) () 1) c : sProp 𝕄) ⊢ cred (tallyAt (barCell c) () 1) :=
    Pipeline.launchCred_tallyAt (.reg barS) (fwd j) (bwd j) (fwd_bwd j) (bwd_fwd j) () 1 c
  have hr (j : Fin 3) : (Pipeline.launchCred (fun d => tallyAt (recvCell j (fwd j d)) () NR) c : sProp 𝕄) ⊢ cred (tallyAt (recvCell j c) () NR) :=
    Pipeline.launchCred_tallyAt (.dma (recvS j)) (fwd j) (bwd j) (fwd_bwd j) (bwd_fwd j) () NR c
  have h3 : (tallyAt (barCell c) () 3 : CellTallies nD τ sig Unit) = tallyAt (barCell c) () 1 + (tallyAt (barCell c) () 1 + tallyAt (barCell c) () 1) := by
    rw [tallyAt_add, tallyAt_add]
  have e : (Pipeline.launchCred O₀ c : sProp 𝕄) = iprop((((((emp
      ∗ Pipeline.launchCred (fun d => tallyAt (recvCell 2 (fwd 2 d)) () NR) c) ∗ Pipeline.launchCred (fun d => tallyAt (recvCell 1 (fwd 1 d)) () NR) c)
      ∗ Pipeline.launchCred (fun d => tallyAt (recvCell 0 (fwd 0 d)) () NR) c) ∗ Pipeline.launchCred (fun d => tallyAt (barCell (fwd 2 d)) () 1) c)
      ∗ Pipeline.launchCred (fun d => tallyAt (barCell (fwd 1 d)) () 1) c) ∗ Pipeline.launchCred (fun d => tallyAt (barCell (fwd 0 d)) () 1) c) := by
    rw [← Pipeline.launchCred_zero c, ← Pipeline.launchCred_add, ← Pipeline.launchCred_add, ← Pipeline.launchCred_add, ← Pipeline.launchCred_add,
      ← Pipeline.launchCred_add, ← Pipeline.launchCred_add]
    rfl
  rw [e, h3, bigSep_fin3]
  iintro ⟨⟨⟨⟨⟨⟨-, R2⟩, R1⟩, R0⟩, B2⟩, B1⟩, B0⟩
  ihave B0 := (hb 0) $$ B0
  ihave B1 := (hb 1) $$ B1
  ihave B2 := (hb 2) $$ B2
  ihave R0 := (hr 0) $$ R0
  ihave R1 := (hr 1) $$ R1
  ihave R2 := (hr 2) $$ R2
  isplitl [B0 B1 B2]
  · iapply (cred_add _ _).2
    isplitl [B0]; · iexact B0
    iapply (cred_add _ _).2
    isplitl [B1] <;> iassumption
  isplitl [R0]; · iexact R0
  isplitl [R1] <;> iassumption

/-! ## The side conditions of the launch -/

/-- The launch gives a device what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hy⟩, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1]; · iexact H1
    isplitl [HN]; · iexact HN
    isplitl [Hx]
    · iapply (Entails.of_eq (owns_whole (c : Thread nD τ) main_arg0 fullShare (xIn m c)).symm); iexact Hx
    iapply (some_intro c (Memref.whole main_v1) (m ((c : Thread nD τ).loc main_v1)))
    iapply (Entails.of_eq (owns_whole (c : Thread nD τ) main_v1 fullShare (m ((c : Thread nD τ).loc main_v1))).symm); iexact Hy
  · iempintro

/-- A whole buffer at contents not named. -/
theorem some_whole (c : Dev nD) (b : Ref sig .tc) : (some' c (Memref.whole b) : sProp 𝕄)
    = iprop(∃ f : Buf (Elt F) ((c : Thread nD τ).loc b), ((c : Thread nD τ).loc b) ↦{fullShare} f) :=
  congrArg (fun Ψ : Buf (Elt F) ((c : Thread nD τ).loc b) → sProp 𝕄 => iprop(∃ f, Ψ f)) (funext fun f => owns_whole (c : Thread nD τ) b fullShare f)

/-- The buffers that the call scopes are the three scratch buffers. -/
theorem scratch_eq (c : Dev nD) : (Pipeline.scopedRest cfg0.spec c : sProp 𝕄) = scratch c := by
  unfold scratch; rw [scopedRest0_eq, some_whole, some_whole, some_whole]

/-- The start and the scratch buffers are what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

/-- What the body ends with gives back the counters and the scratch buffers. -/
theorem phi1_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scratch_eq, ownSems0_eq]
  exact Entails.refl _

/-- The pipeline itself waits for nothing. -/
theorem waits (c : Dev nD) : (levAts L lv : sProp 𝕄) ⊢ Pipeline.cellsWaits cfgs (dats m) () 0 c :=
  Pipeline.cellsWaits_intro cfgs (dats m) () 0 c fun w _ _ => w.elim0

/-- What a device is seen to end with. -/
def Seen (c : Dev nD) (s : MemSt nD τ sig (Elt F)) : Prop :=
  s.mem ((c : Thread nD τ).loc main_arg0) = xIn m c ∧ s.mem ((c : Thread nD τ).loc main_v1) = outFull m c
    ∧ ∀ sm : SemLoc sig, sm.isScoped .tc = false → s.sem ((c.tc : Thread nD τ), sm) = 0

/-- What a device ends with is what the machine holds. -/
theorem finish_read (c : Dev nD) (s' : Phys nD τ sig (Elt F)) :
    (iprop(finish m c ∗ emp ∗ SI s') : sProp 𝕄) ⊢ |={Set.univ}=> iprop(⌜Seen m c s'.mem⌝ ∗ SI s') := by
  unfold finish
  rw [← unscopedSems0_eq]
  iintro ⟨⟨Hx, Hy, Hu⟩, -, HSI⟩
  ihave Hx := (Entails.of_eq (owns_whole (c : Thread nD τ) main_arg0 fullShare (xIn m c))) $$ Hx
  ihave Hy := (Entails.of_eq (owns_whole (c : Thread nD τ) main_v1 fullShare (outFull m c))) $$ Hy
  ihave %h1 := (SI_pointsTo_agree) $$ [HSI Hx]
  · isplitl [HSI] <;> iassumption
  ihave %h2 := (SI_pointsTo_agree) $$ [HSI Hy]
  · isplitl [HSI] <;> iassumption
  imod (Pipeline.unscopedSems0_read (X := unscopedSems0 c) (c := c) fupd_intro s') $$ [Hu HSI] with ⟨%h3, HSI⟩
  · isplitl [Hu] <;> iassumption
  imodintro
  isplitr
  · ipureintro
    exact ⟨funext fun i => h1 i (Finset.mem_univ i), funext fun i => h2 i (Finset.mem_univ i), h3⟩
  iexact HSI

/-- The protocol's part of what the launch funds. -/
theorem own_ER (a : UB) : (BI.own ((embR : Emb (UB × Counters) 𝕄) (a, (1 : Counters))) : sProp 𝕄) ⊢ BI.own (ER a) := Entails.refl _

/-! ## The run -/

set_option maxRecDepth 8000 in
/-- From any memory with zero counters every fair run of the program on the four devices terminates, with each device's result
    at the computed contents, its input unchanged and every counter at zero. -/
theorem run_main : θ_run defs (onTc (τ := τ) (main (F := F))) ⟨m, fun _ => 0, ρ⟩ (fun r =>
    (∀ c : Dev nD, r.2.mem ((c : Thread nD τ).loc main_arg0) = xIn m c ∧ r.2.mem ((c : Thread nD τ).loc main_v1) = outFull m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_ER (F := F) _) $$ HX
      imod (fund_scan m) $$ HX with HG
      imodintro
      isplitl [HP] <;> iassumption)
    (hglob := glob m)
    (hA := fun _ w => w.elim0) (hpf := fun _ k => k.elim0)
    (X := start m) (Y := finish m) (Z := fun _ => iprop(emp))
    (hX := start_intro m ρ) (hin := phi0_intro m) (hout := phi1_exit m)
    (QY := Seen m)
    (hY := fun c s' => finish_read m c s')
    (hQ := fun _ h hs => ⟨fun c => ⟨(h c).2.2.1, (h c).2.2.2.1⟩, sem_eq_zero hs fun c => (h c).2.2.2.2⟩)

end Cert.ScanProof

end
-- ==== Proof.Frames.lean ====
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

/-!
# The frames

Each program terminates without fault, leaves its input as it was and every counter at zero. The kernel and its ideal
reading have one text, so one run serves both.
-/

@[expose] public section

noncomputable section

namespace Cert.ScanProof

open Idealize.ShloMosaic Idealize.SL.Sem

/-- The kernel over the machine's words. -/
theorem frame_kernel : Cert.quiescent_Kernel := fun m ρ _ =>
  (θ_run Cert.KernelIdeal.defs _ _).mono (fun _ h => ⟨fun c => (h.1 c).1, h.2⟩) (run_main (F := Bits) m ρ)

/-- The kernel over the extended reals. -/
theorem frame_ideal : Cert.quiescent_KernelIdeal := fun m ρ _ =>
  (θ_run Cert.KernelIdeal.defs _ _).mono (fun _ h => ⟨fun c => (h.1 c).1, h.2⟩) (run_main (F := Ideal) m ρ)

end Cert.ScanProof

end
-- ==== Proof.Value.lean ====
module

public import proofs.«01_k».proof.Proof.Base
public import Idealize.ShloMosaic.Lib.Pointwise

/-!
# What the kernel computes, over the extended reals

Every quantity of the kernel, read at a column, is a sum of the input's entries of that column. Multiplying by the
lower-triangular matrix of ones adds up the rows so far; zero times an infinity is zero, so the entries need not be finite.
-/

@[expose] public section

set_option maxRecDepth 16384

noncomputable section

namespace Cert.ScanProof

open Idealize.ShloMosaic
open Cert.KernelIdeal Cert.KernelIdeal.Gen

variable (m : (ℓ : Loc nD τ sig) → Buf (Elt Ideal) ℓ)

/-- The sum over a chunk's rows, at a column. -/
theorem pay2_at (v : FVec Ideal S256x1024 .f32) (j : Fin 1024) : k0_pay2 v (ix2 0 j) = ∑ r : Fin 256, v (ix2 r j) := by
  pointwise [k0_pay2]

/-- The running sum starts at zero. -/
theorem pay1_at (j : Fin 1024) : k0_pay1 (F := Ideal) (ix2 0 j) = 0 := by
  pointwise [k0_pay1]

/-- One more chunk's sums are added. -/
theorem pay3_at (a b : FVec Ideal S1x1024 .f32) (j : Fin 1024) : k0_pay3 a b (ix2 0 j) = a (ix2 0 j) + b (ix2 0 j) := by
  pointwise [k0_pay3]

/-- Comparing two small naturals as signed words. -/
theorem sge_word (r q : Fin 256) :
    IntOp.cmpi CmpIPredicate.sge (BitVec.ofNat 32 r.val) (BitVec.ofNat 32 q.val) = BitVec.ofBool (decide (q ≤ r)) := by
  have hw (a : Fin 256) : (BitVec.ofNat 32 a.val).toInt = (a.val : ℤ) := by
    have := a.isLt
    rw [BitVec.toInt_ofNat', Int.bmod_def]
    omega
  unfold IntOp.cmpi
  show BitVec.ofBool ((BitVec.ofNat 32 q.val).sle (BitVec.ofNat 32 r.val)) = _
  rw [BitVec.sle_eq_decide, hw, hw]
  congr 1
  simp only [Nat.cast_le, Fin.le_def]

/-- The matrix of ones on and below the diagonal. -/
theorem pay39_at (r q : Fin 256) : k0_pay39 (F := Ideal) (ix2 r q) = if q ≤ r then 1 else 0 := by
  pointwise [k0_pay39]
  rw [sge_word]
  by_cases h : q ≤ r
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    rw [show (BitVec.setWidth 32 (BitVec.ofBool false)).toInt = 0 by decide]
    norm_num

/-- A chunk of the result: a product with the given matrix, and the two rows added to each row. -/
theorem pay42_at (a b : FVec Ideal S1x1024 .f32) (t : FVec Ideal S256x256 .bf16) (v : FVec Ideal S256x1024 .f32) (r : Fin 256)
    (j : Fin 1024) : k0_pay42 a b t v (ix2 r j) = (∑ q : Fin 256, t (ix2 r q) * v (ix2 q j)) + (a (ix2 0 j) + b (ix2 0 j)) := by
  pointwise [k0_pay42]

/-- The bit by which a device keeps the total in row `s` of its table: it compares the sender, `s + 1` places before it around
    the ring, with itself. -/
theorem keep_bit (c : Dev nD) (s : Fin 3) :
    (let w := Scalar.select (Scalar.cmpi CmpIPredicate.eq 4#32 0#32) 1#32 4#32
     let a := IntOp.remsi ArithUnit.vector (IntOp.subi (IntOp.subi (devWord c) (BitVec.ofNat 32 s.val)) 1#32) w
     IntOp.cmpi CmpIPredicate.slt
       (Scalar.select
         (IntOp.andi
           (IntOp.xori (IntOp.cmpi CmpIPredicate.slt a 0#32) (Scalar.cmpi CmpIPredicate.slt w 0#32))
           (IntOp.cmpi CmpIPredicate.ne a 0#32))
         (IntOp.addi a w) a)
       (devWord c)) = BitVec.ofBool (decide (bwd s c < c)) := by
  revert c s; decide +kernel

/-- What a device adds to all its rows: the totals of the devices before it. -/
theorem offset_at (c : Dev nD) (v : FVec Ideal S3x1024 .f32) (j : Fin 1024) :
    offset (devWord c) v (ix2 0 j) = ∑ s : Fin 3, if bwd s c < c then v (ix2 s j) else 0 := by
  unfold offset
  pointwise [k0_pay38, k0_pay35, k0_pay36, k0_pay37]
  refine Finset.sum_congr rfl fun s _ => (congrArg (fun b => Scalar.select b (v (ix2 s j)) 0) (keep_bit c s)).trans ?_
  by_cases h : bwd s c < c
  · rw [if_pos h, decide_eq_true h]; rfl
  · rw [if_neg h, decide_eq_false h]; rfl

/-! ## Sums over ranges -/

/-- A sum whose terms vanish beyond `r` stops at `r`. -/
theorem sum_upto (f : ℕ → EReal) {N r : ℕ} (h : r < N) :
    (∑ i ∈ Finset.range N, if i ≤ r then f i else 0) = ∑ i ∈ Finset.range (r + 1), f i := by
  rw [← Finset.sum_filter]
  refine Finset.sum_congr (Finset.ext fun i => ?_) fun _ _ => rfl
  rw [Finset.mem_filter, Finset.mem_range, Finset.mem_range]
  omega

/-- The sums over the first `n` blocks of `b` are the sum over the first `b * n`. -/
theorem sum_blocks (f : ℕ → EReal) (b n : ℕ) :
    (∑ d ∈ Finset.range n, ∑ i ∈ Finset.range b, f (b * d + i)) = ∑ i ∈ Finset.range (b * n), f i := by
  induction n with
  | zero => rfl
  | succ n ih => rw [Finset.sum_range_succ, ih, Nat.mul_succ, Finset.sum_range_add]

/-- The devices before `c`, met one after the other backwards around the ring, are those with a smaller number. -/
theorem sum_before (T : ℕ → EReal) (c : Dev nD) :
    (∑ s : Fin 3, if bwd s c < c then T (bwd s c).val else 0) = ∑ d ∈ Finset.range c.val, T d := by
  have hc : ∀ c' : Fin 4, (∑ s : Fin 3, if bwd s c' < c' then T (bwd s c').val else 0) = ∑ d ∈ Finset.range c'.val, T d := by
    intro c'
    fin_cases c' <;> simp [Fin.sum_univ_three, Finset.sum_range_succ, bwd, nD, Fin.lt_def, add_assoc, add_comm, add_left_comm]
  exact hc c

/-! ## The sums the kernel keeps -/

/-- Row `i` of column `j` of device `c`'s input, nothing beyond the last row. -/
def entry (c : Dev nD) (j : Fin 1024) (i : ℕ) : EReal := if h : i < 8192 then xIn m c (ix2 ⟨i, h⟩ j) else 0

/-- A chunk's entries are the input's. -/
theorem xBlk_at (c : Dev nD) (k : Fin 32) (r : Fin 256) (j : Fin 1024) :
    xBlk m c k (ix2 r j) = entry m c j (256 * k.val + r.val) := by
  have hk := k.isLt
  have hr := r.isLt
  unfold entry xBlk
  rw [dif_pos (by omega)]
  congr 1
  funext a
  fin_cases a
  · apply Fin.ext; show 256 * k.val + 1 * r.val = 256 * k.val + r.val; omega
  · apply Fin.ext; show 0 + 1 * j.val = j.val; omega

/-- After `n` chunks the running sum holds the sum of their rows. -/
theorem runs_at (c : Dev nD) (j : Fin 1024) (n : ℕ) (hn : n ≤ 32) :
    runs m c n (ix2 0 j) = ∑ i ∈ Finset.range (256 * n), entry m c j i := by
  induction n with
  | zero => exact pay1_at j
  | succ n ih =>
    have e : (Fin.ofNat 32 n).val = n := Nat.mod_eq_of_lt (by omega)
    show k0_pay3 (runs m c n) (k0_pay2 (xBlk m c (Fin.ofNat 32 n))) (ix2 0 j) = _
    rw [pay3_at, pay2_at, ih (by omega), Nat.mul_succ, Finset.sum_range_add]
    congr 1
    rw [← Fin.sum_univ_eq_sum_range (fun i => entry m c j (256 * n + i)) 256]
    exact Finset.sum_congr rfl fun r _ => by rw [xBlk_at, e]

/-- A device's total is the sum of all its rows. -/
theorem total_at (c : Dev nD) (j : Fin 1024) : total m c (ix2 0 j) = ∑ i ∈ Finset.range 8192, entry m c j i := by
  refine Eq.trans ?_ (runs_at m c j 32 le_rfl)
  unfold total
  generalize runs m c 32 = R
  pointwise

/-- What a device adds to all its rows: the sums of all rows of the devices before it. -/
theorem offs_at (c : Dev nD) (j : Fin 1024) :
    offs m c (ix2 0 j) = ∑ s : Fin 3, if bwd s c < c then ∑ i ∈ Finset.range 8192, entry m (bwd s c) j i else 0 := by
  unfold offs
  rw [offset_at]
  refine Finset.sum_congr rfl fun s _ => ?_
  rw [← total_at]
  rfl

/-- A row of a chunk of the result: the device's rows up to and including it, and the sums of the devices before. -/
theorem resBlk_at (c : Dev nD) (k : Fin 32) (r : Fin 256) (j : Fin 1024) :
    resBlk m c k (ix2 r j) = (∑ i ∈ Finset.range (256 * k.val + r.val + 1), entry m c j i) + offs m c (ix2 0 j) := by
  have ht : (∑ q : Fin 256, k0_pay39 (F := Ideal) (ix2 r q) * xBlk m c k (ix2 q j))
      = ∑ i ∈ Finset.range (r.val + 1), entry m c j (256 * k.val + i) := by
    rw [← sum_upto (fun i => entry m c j (256 * k.val + i)) r.isLt,
      ← Fin.sum_univ_eq_sum_range (fun i => if i ≤ r.val then entry m c j (256 * k.val + i) else 0) 256]
    refine Finset.sum_congr rfl fun q _ => ?_
    rw [pay39_at, xBlk_at]
    by_cases h : q ≤ r
    · rw [if_pos h, if_pos (Fin.le_def.mp h), one_mul]
    · rw [if_neg h, if_neg (fun h' => h (Fin.le_def.mpr h')), zero_mul]
  unfold resBlk
  rw [pay42_at, ht, runs_at m c j k.val (by omega), ← add_assoc, add_assoc (256 * k.val),
    Finset.sum_range_add (fun i => entry m c j i) (256 * k.val) (r.val + 1)]
  congr 1
  exact add_comm (G := EReal) _ _

end Cert.ScanProof

end
-- ==== Proof.RefValue.lean ====
module

public import proofs.«01_k».proof.Proof.Gen.ReferenceIdeal
public import Idealize.ShloMosaic.Lib.Routing.OpsOne
public import Idealize.ShloMosaic.Lib.Pointwise

/-!
# What the reference computes, over the extended reals

The cumulative sum prints as a window of the array's whole height, padded above by one row less: the window that ends at
a row holds padding and the rows up to and including it.
-/

@[expose] public section

noncomputable section

namespace Cert.ScanProof.Ref

open Idealize.ShloMosaic
open Cert.ReferenceIdeal Cert.ReferenceIdeal.Gen

/-- Row `i` of column `j` of the whole array, nothing beyond the last row. -/
def entry (v : FVec Ideal S32768x1024 .f32) (j : Fin 1024) (i : ℕ) : EReal := if h : i < 32768 then v (ix2 ⟨i, h⟩ j) else 0

/-- Adding up a list from a start. -/
theorem foldl_add {α : Type} (g : α → EReal) (l : List α) (a : EReal) : l.foldl (fun r n => r + g n) a = a + (l.map g).sum := by
  induction l generalizing a with
  | nil => exact (add_zero a).symm
  | cons n l ih => rw [List.foldl_cons, ih, List.map_cons, List.sum_cons, add_assoc]

/-- A window of `N + 1` places whose last is place `r`, the places before the first holding nothing. -/
theorem sum_window (f : ℕ → EReal) {N r : ℕ} (h : r ≤ N) :
    (∑ n ∈ Finset.range (N + 1), if N ≤ r + n then f (r + n - N) else 0) = ∑ i ∈ Finset.range (r + 1), f i := by
  have e : N + 1 = (N - r) + (r + 1) := by omega
  rw [e, Finset.sum_range_add, Finset.sum_eq_zero (fun n hn => if_neg (by rw [Finset.mem_range] at hn; omega)), zero_add]
  refine Finset.sum_congr rfl fun i _ => ?_
  rw [if_pos (by omega)]
  congr 1
  omega

/-- A cumulative sum down the rows, as it prints, at any size: a row of the result is the sum of the rows up to and
    including it. -/
theorem window_at {R N C : ℕ} (hR : N + 1 = R) (x : FVec Ideal (Routing.shape2 R C) .f32) (init : FVec Ideal Routing.shape0 .f32)
    (hinit : ∀ u, init u = (0 : EReal))
    (h : (Routing.shape2 R C).ReduceWindows (![R, 1] : Fin 2 → ℕ) ![1, 1] ![N, 0] ![0, 0] (Routing.shape2 R C)) (hu : 0 < Routing.shape0.numel)
    (i : Fin R) (j : Fin C) :
    Host.reduceWindowAdd ![R, 1] ![1, 1] ![N, 0] ![0, 0] x init h hu (ix2 i j)
      = ∑ n ∈ Finset.range (i.val + 1), if h : n < R then x (ix2 ⟨n, h⟩ j) else (0 : EReal) := by
  subst hR
  have hi := i.isLt
  have hj := j.isLt
  rw [← sum_window (fun n => if h : n < N + 1 then x (ix2 ⟨n, h⟩ j) else (0 : EReal)) (N := N) (by omega)]
  show Host.reduceWindow (fun a b : EReal => a + b) ![N + 1, 1] ![1, 1] ![N, 0] ![0, 0] x
    (fun _ : Routing.shape0.Idx => init (Shape.Idx.first hu)) h hu (ix2 i j) = _
  rw [hinit]
  unfold Host.reduceWindow
  refine (foldl_add _ _ _).trans ?_
  rw [zero_add, ← Fin.sum_univ_def]
  rw [← Fin.sum_univ_eq_sum_range (fun n => if N ≤ i.val + n then
    (if h : i.val + n - N < N + 1 then x (ix2 ⟨i.val + n - N, h⟩ j) else (0 : EReal)) else 0) (N + 1)]
  refine Fintype.sum_equiv (finCongr (Routing.numel_col (N + 1))) _ _ fun n => ?_
  have hn : n.val < N + 1 := (n.cast (Routing.numel_col _)).isLt
  have hw0 : ((Routing.shape2 (N + 1) 1).rowMajor.symm n 0).val = n.val := by rw [Routing.symm_col]; rfl
  have hw1 : ((Routing.shape2 (N + 1) 1).rowMajor.symm n 1).val = 0 := by rw [Routing.symm_col]; rfl
  have p0 : i.val * 1 + ((Routing.shape2 (N + 1) 1).rowMajor.symm n 0).val = i.val + n.val := by rw [hw0, Nat.mul_one]
  have p1 : j.val * 1 + ((Routing.shape2 (N + 1) 1).rowMajor.symm n 1).val = j.val := by rw [hw1, Nat.mul_one]; rfl
  show _ = if N ≤ i.val + n.val then (if h : i.val + n.val - N < N + 1 then x (ix2 ⟨i.val + n.val - N, h⟩ j) else (0 : EReal)) else 0
  dsimp only
  split
  · next hin =>
    have h0 : N ≤ i.val * 1 + ((Routing.shape2 (N + 1) 1).rowMajor.symm n 0).val := (hin 0).1
    rw [p0] at h0
    rw [if_pos h0, dif_pos (by omega)]
    refine congrArg x (funext fun a => Fin.ext ?_)
    match a with
    | ⟨0, _⟩ => exact congrArg (· - N) p0
    | ⟨1, _⟩ => exact p1
  · next hin =>
    refine (if_neg fun hle => hin fun a => ?_).symm
    match a with
    | ⟨0, _⟩ =>
      show N ≤ i.val * 1 + ((Routing.shape2 (N + 1) 1).rowMajor.symm n 0).val
        ∧ i.val * 1 + ((Routing.shape2 (N + 1) 1).rowMajor.symm n 0).val - N < N + 1
      rw [p0]; omega
    | ⟨1, _⟩ =>
      show 0 ≤ j.val * 1 + ((Routing.shape2 (N + 1) 1).rowMajor.symm n 1).val
        ∧ j.val * 1 + ((Routing.shape2 (N + 1) 1).rowMajor.symm n 1).val - 0 < C
      rw [p1]; omega

/-- The reference's result, of its input. -/
def out (v : FVec Ideal S32768x1024 .f32) : FVec Ideal S32768x1024 .f32 :=
  Host.reduceWindowAdd ![32768, 1] ![1, 1] ![32767, 0] ![0, 0] v (broadcastInDim S_ ![] bcast_S_S_ (constant S_ .f32 0x00000000#32))
    reduceWindows_S32768x1024_S32768x1024_w32768s1p32767_0_w1s1p0_0 h_S_

/-- A row of the reference's result is the sum of the rows up to and including it. -/
theorem out_at (v : FVec Ideal S32768x1024 .f32) (i : Fin 32768) (j : Fin 1024) :
    out v (ix2 i j) = ∑ n ∈ Finset.range (i.val + 1), entry v j n :=
  window_at (N := 32767) rfl v (broadcastInDim S_ ![] bcast_S_S_ (constant S_ .f32 0x00000000#32)) (fun u => by pointwise)
    reduceWindows_S32768x1024_S32768x1024_w32768s1p32767_0_w1s1p0_0 h_S_ i j

end Cert.ScanProof.Ref

end
-- ==== Proof.Algebraic.lean ====
module

public import proofs.«01_k».proof.Proof.Frames
public import proofs.«01_k».proof.Proof.Value
public import proofs.«01_k».proof.Proof.RefValue

/-!
# Kernel and reference compute the same sums

Device `c` holds rows `8192 c` to `8192 c + 8191`. Its result's row `i` is the sum of its own rows up to `i` and of all rows
of the devices before it: the sum of the rows up to row `8192 c + i` of the whole array.
-/

@[expose] public section

noncomputable section

namespace Cert.ScanProof

open Idealize.ShloMosaic Idealize.ShloMosaic.TcCoe Idealize.SL.Sem
open Cert.KernelIdeal

variable (m : (ℓ : Loc nD τ sig) → Buf (Elt Ideal) ℓ)

/-- The whole array's type, and one device's block of it. -/
abbrev Whole : Shape := ⟨2, ![32768, 1024]⟩
/-- One device's block of the whole array. -/
abbrev Part : Shape := ⟨2, ![8192, 1024]⟩

/-- Entry (i, j) of device `c`'s block is entry (8192 c + i, j) of the whole array. -/
theorem block_at {α : Type} (c : Fin 4) (v : Whole.Idx → α) (i : Fin 8192) (j : Fin 1024) :
    Layout.block Part Whole 0 4 c v (by decide) (ix2 i j) = v (ix2 ⟨8192 * c.val + i.val, by omega⟩ j) := by
  rw [Layout.block_apply]
  congr 1
  funext a
  apply Fin.ext
  match a with
  | ⟨0, _⟩ => exact (Layout.idx_rows_val _ c (ix2 i j)).1.trans (by show c.val * 8192 + i.val = 8192 * c.val + i.val; omega)
  | ⟨1, _⟩ => exact (Layout.idx_rows_val _ c (ix2 i j)).2

/-- A device's entries, where its input is its block of the whole array. -/
theorem entry_block (v : FVec Ideal Whole .f32) (hx : ∀ c : Dev nD, xIn m c = Layout.block Part Whole 0 4 c v (by decide)) (c : Dev nD)
    (j : Fin 1024) (i : ℕ) (hi : i < 8192) : entry m c j i = Ref.entry v j (8192 * c.val + i) := by
  have hc : c.val < 4 := c.isLt
  unfold entry Ref.entry
  rw [dif_pos hi, dif_pos (by omega), hx]
  exact block_at c v ⟨i, hi⟩ j

/-- Each device's result is its block of the reference's. -/
theorem out_block (v : FVec Ideal Whole .f32) (hx : ∀ c : Dev nD, xIn m c = Layout.block Part Whole 0 4 c v (by decide)) (c : Dev nD) :
    outFull m c = Layout.block Part Whole 0 4 c (Ref.out v) (by decide) := by
  funext i
  obtain ⟨i, j, rfl⟩ : ∃ (a : Fin 8192) (b : Fin 1024), i = ix2 a b := ⟨i 0, i 1, eq_ix2 i⟩
  have hc : c.val < 4 := c.isLt
  have hi := i.isLt
  rw [block_at, Ref.out_at]
  show resBlk m c ⟨i.val / 256, by omega⟩ (ix2 ⟨i.val % 256, Nat.mod_lt _ (by decide)⟩ j) = _
  rw [resBlk_at, offs_at]
  have hs (d : Dev nD) : (∑ n ∈ Finset.range 8192, entry m d j n) = ∑ n ∈ Finset.range 8192, Ref.entry v j (8192 * d.val + n) :=
    Finset.sum_congr rfl fun n hn => entry_block m v hx d j n (Finset.mem_range.mp hn)
  have hb : (∑ s : Fin 3, if bwd s c < c then ∑ n ∈ Finset.range 8192, entry m (bwd s c) j n else 0)
      = ∑ n ∈ Finset.range (8192 * c.val), Ref.entry v j n := by
    simp only [hs]
    rw [sum_before (fun d => ∑ n ∈ Finset.range 8192, Ref.entry v j (8192 * d + n)) c, sum_blocks]
  have hr : 256 * (i.val / 256) + i.val % 256 + 1 = i.val + 1 := by omega
  have ho : (∑ n ∈ Finset.range (i.val + 1), entry m c j n) = ∑ n ∈ Finset.range (i.val + 1), Ref.entry v j (8192 * c.val + n) :=
    Finset.sum_congr rfl fun n hn => entry_block m v hx c j n (by have := Finset.mem_range.mp hn; omega)
  rw [hb]
  show (∑ n ∈ Finset.range (256 * (i.val / 256) + i.val % 256 + 1), entry m c j n) + _ = ∑ n ∈ Finset.range (8192 * c.val + i.val + 1), _
  rw [hr, ho, add_assoc (8192 * c.val), Finset.sum_range_add (fun n => Ref.entry v j n) (8192 * c.val) (i.val + 1)]
  exact add_comm (G := EReal) _ _

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From inputs that agree, each device of the kernel ends with its block of what the reference ends with. -/
theorem algebraic : Cert.algebraic_KernelIdeal_ReferenceIdeal := by
  intro m ρ m' ρ' _ hx
  refine ⟨Ref.out (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c => ⟨(h.1 c).2.trans (out_block m _ hx c), (h.1 c).1⟩) (run_main (F := Ideal) m ρ)
  · exact (θ_run Cert.ReferenceIdeal.defs _ _).mono (fun _ h => h 0) (Cert.ReferenceIdeal.Value.run (F := Ideal) m' ρ')

end Cert.ScanProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

/-!
# The prefix sum over four devices

The assembly: the frames of the kernel, of its ideal reading and of the reference, and the two results' equality.
-/

namespace Cert.Proof

/-- Every claim of this directory. -/
theorem claim : Cert.Claim :=
  ⟨Cert.Kernel.Gen.facts, Cert.KernelIdeal.Gen.facts, Cert.ReferenceIdeal.Gen.facts,
    Cert.ScanProof.frame_kernel, Cert.ScanProof.frame_ideal, Cert.ScanProof.frame_reference, trivial, Cert.ScanProof.algebraic⟩

end Cert.Proof

end
